-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
-- ==== Pre_lengths_in_range.lean ====
abbrev S16x128x128x128 : Shape := ⟨4, ![16, 128, 128, 128]⟩
abbrev S16 : Shape := ⟨1, ![16]⟩
abbrev S16x1x1x1 : Shape := ⟨4, ![16, 1, 1, 1]⟩
abbrev S_ : Shape := ⟨0, ![]⟩

class Facts : Prop where
  bcast_S16_S16x1x1x1_0 : S16.BroadcastsInDim S16x1x1x1 (![0] : Fin 1 → Fin S16x1x1x1.rank)
  bcast_S_S16x128x128x128 : S_.BroadcastsInDim S16x128x128x128 (![] : Fin 0 → Fin S16x128x128x128.rank)
  bcast_S_S16x1x1x1 : S_.BroadcastsInDim S16x1x1x1 (![] : Fin 0 → Fin S16x1x1x1.rank)
  bcast_S16x1x1x1_S16x128x128x128_0_1_2_3 : S16x1x1x1.BroadcastsInDim S16x128x128x128 (![0, 1, 2, 3] : Fin 4 → Fin S16x128x128x128.rank)

variable [Facts]

def fn {F : FTy → Type} [FloatOps F] (main_arg0 : FVec F S16x128x128x128 .f32) (main_arg1 : IVec S16 32) : IVec S16x128x128x128 1 :=
  let main_v0 : IVec S16x1x1x1 32 := broadcastInDim S16x1x1x1 ![0] bcast_S16_S16x1x1x1_0 main_arg1
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_arg0 main_v1
  let main_c : IVec S_ 32 := constantI S_ 32 1#32
  let main_v3 : IVec S16x1x1x1 32 := broadcastInDim S16x1x1x1 ![] bcast_S_S16x1x1x1 main_c
  let main_v4 : IVec S16x1x1x1 1 := cmpi .sge main_v0 main_v3
  let main_v5 : IVec S16x128x128x128 1 := broadcastInDim S16x128x128x128 ![0, 1, 2, 3] bcast_S16x1x1x1_S16x128x128x128_0_1_2_3 main_v4
  let main_v6 : IVec S16x128x128x128 1 := andi main_v2 main_v5
  let main_c_0 : IVec S_ 32 := constantI S_ 32 128#32
  let main_v7 : IVec S16x1x1x1 32 := broadcastInDim S16x1x1x1 ![] bcast_S_S16x1x1x1 main_c_0
  let main_v8 : IVec S16x1x1x1 1 := cmpi .sle main_v0 main_v7
  let main_v9 : IVec S16x128x128x128 1 := broadcastInDim S16x128x128x128 ![0, 1, 2, 3] bcast_S16x1x1x1_S16x128x128x128_0_1_2_3 main_v8
  let main_v10 : IVec S16x128x128x128 1 := andi main_v6 main_v9
  main_v10
-- ==== Kernel.lean ====
abbrev S16x128x128x128 : Shape := ⟨4, ![16, 128, 128, 128]⟩
abbrev S16 : Shape := ⟨1, ![16]⟩
abbrev S1x16 : Shape := ⟨2, ![1, 16]⟩
abbrev S16x128 : Shape := ⟨2, ![16, 128]⟩
abbrev S1x64x128x128 : Shape := ⟨4, ![1, 64, 128, 128]⟩
abbrev S1x64x64x128 : Shape := ⟨4, ![1, 64, 64, 128]⟩
abbrev S16x128x128 : Shape := ⟨3, ![16, 128, 128]⟩
abbrev S128x16x128 : Shape := ⟨3, ![128, 16, 128]⟩
abbrev S64x128x128 : Shape := ⟨3, ![64, 128, 128]⟩
abbrev S64x128 : Shape := ⟨2, ![64, 128]⟩
abbrev S64x127 : Shape := ⟨2, ![64, 127]⟩
abbrev S64x1 : Shape := ⟨2, ![64, 1]⟩
abbrev S64x126 : Shape := ⟨2, ![64, 126]⟩
abbrev S64x2 : Shape := ⟨2, ![64, 2]⟩
abbrev S64x124 : Shape := ⟨2, ![64, 124]⟩
abbrev S64x4 : Shape := ⟨2, ![64, 4]⟩
abbrev S64x120 : Shape := ⟨2, ![64, 120]⟩
abbrev S64x8 : Shape := ⟨2, ![64, 8]⟩
abbrev S64x112 : Shape := ⟨2, ![64, 112]⟩
abbrev S64x16 : Shape := ⟨2, ![64, 16]⟩
abbrev S64x96 : Shape := ⟨2, ![64, 96]⟩
abbrev S64x32 : Shape := ⟨2, ![64, 32]⟩
abbrev S128x64 : Shape := ⟨2, ![128, 64]⟩
abbrev S1x128x64 : Shape := ⟨3, ![1, 128, 64]⟩
abbrev S64x64x128 : Shape := ⟨3, ![64, 64, 128]⟩
abbrev S64x64 : Shape := ⟨2, ![64, 64]⟩
abbrev S64x63 : Shape := ⟨2, ![64, 63]⟩
abbrev S64x62 : Shape := ⟨2, ![64, 62]⟩
abbrev S64x60 : Shape := ⟨2, ![64, 60]⟩
abbrev S64x56 : Shape := ⟨2, ![64, 56]⟩
abbrev S64x48 : Shape := ⟨2, ![64, 48]⟩
abbrev S1x64x64 : Shape := ⟨3, ![1, 64, 64]⟩
abbrev S16x1x128 : Shape := ⟨3, ![16, 1, 128]⟩
abbrev S1x16x128 : Shape := ⟨3, ![1, 16, 128]⟩
abbrev S1x16x127 : Shape := ⟨3, ![1, 16, 127]⟩
abbrev S16x127 : Shape := ⟨2, ![16, 127]⟩
abbrev S16x1x127 : Shape := ⟨3, ![16, 1, 127]⟩
abbrev S2x16x126 : Shape := ⟨3, ![2, 16, 126]⟩
abbrev S16x126 : Shape := ⟨2, ![16, 126]⟩
abbrev S1x16x126 : Shape := ⟨3, ![1, 16, 126]⟩
abbrev S16x1x126 : Shape := ⟨3, ![16, 1, 126]⟩
abbrev S3x16x125 : Shape := ⟨3, ![3, 16, 125]⟩
abbrev S16x125 : Shape := ⟨2, ![16, 125]⟩
abbrev S1x16x125 : Shape := ⟨3, ![1, 16, 125]⟩
abbrev S16x1x125 : Shape := ⟨3, ![16, 1, 125]⟩
abbrev S4x16x124 : Shape := ⟨3, ![4, 16, 124]⟩
abbrev S16x124 : Shape := ⟨2, ![16, 124]⟩
abbrev S1x16x124 : Shape := ⟨3, ![1, 16, 124]⟩
abbrev S16x1x124 : Shape := ⟨3, ![16, 1, 124]⟩
abbrev S5x16x123 : Shape := ⟨3, ![5, 16, 123]⟩
abbrev S16x123 : Shape := ⟨2, ![16, 123]⟩
abbrev S1x16x123 : Shape := ⟨3, ![1, 16, 123]⟩
abbrev S16x1x123 : Shape := ⟨3, ![16, 1, 123]⟩
abbrev S6x16x122 : Shape := ⟨3, ![6, 16, 122]⟩
abbrev S16x122 : Shape := ⟨2, ![16, 122]⟩
abbrev S1x16x122 : Shape := ⟨3, ![1, 16, 122]⟩
abbrev S16x1x122 : Shape := ⟨3, ![16, 1, 122]⟩
abbrev S7x16x121 : Shape := ⟨3, ![7, 16, 121]⟩
abbrev S16x121 : Shape := ⟨2, ![16, 121]⟩
abbrev S1x16x121 : Shape := ⟨3, ![1, 16, 121]⟩
abbrev S16x1x121 : Shape := ⟨3, ![16, 1, 121]⟩
abbrev S8x16x120 : Shape := ⟨3, ![8, 16, 120]⟩
abbrev S16x120 : Shape := ⟨2, ![16, 120]⟩
abbrev S1x16x120 : Shape := ⟨3, ![1, 16, 120]⟩
abbrev S16x1x120 : Shape := ⟨3, ![16, 1, 120]⟩
abbrev S9x16x119 : Shape := ⟨3, ![9, 16, 119]⟩
abbrev S16x119 : Shape := ⟨2, ![16, 119]⟩
abbrev S1x16x119 : Shape := ⟨3, ![1, 16, 119]⟩
abbrev S16x1x119 : Shape := ⟨3, ![16, 1, 119]⟩
abbrev S10x16x118 : Shape := ⟨3, ![10, 16, 118]⟩
abbrev S16x118 : Shape := ⟨2, ![16, 118]⟩
abbrev S1x16x118 : Shape := ⟨3, ![1, 16, 118]⟩
abbrev S16x1x118 : Shape := ⟨3, ![16, 1, 118]⟩
abbrev S11x16x117 : Shape := ⟨3, ![11, 16, 117]⟩
abbrev S16x117 : Shape := ⟨2, ![16, 117]⟩
abbrev S1x16x117 : Shape := ⟨3, ![1, 16, 117]⟩
abbrev S16x1x117 : Shape := ⟨3, ![16, 1, 117]⟩
abbrev S12x16x116 : Shape := ⟨3, ![12, 16, 116]⟩
abbrev S16x116 : Shape := ⟨2, ![16, 116]⟩
abbrev S1x16x116 : Shape := ⟨3, ![1, 16, 116]⟩
abbrev S16x1x116 : Shape := ⟨3, ![16, 1, 116]⟩
abbrev S13x16x115 : Shape := ⟨3, ![13, 16, 115]⟩
abbrev S16x115 : Shape := ⟨2, ![16, 115]⟩
abbrev S1x16x115 : Shape := ⟨3, ![1, 16, 115]⟩
abbrev S16x1x115 : Shape := ⟨3, ![16, 1, 115]⟩
abbrev S14x16x114 : Shape := ⟨3, ![14, 16, 114]⟩
abbrev S16x114 : Shape := ⟨2, ![16, 114]⟩
abbrev S1x16x114 : Shape := ⟨3, ![1, 16, 114]⟩
abbrev S16x1x114 : Shape := ⟨3, ![16, 1, 114]⟩
abbrev S15x16x113 : Shape := ⟨3, ![15, 16, 113]⟩
abbrev S16x113 : Shape := ⟨2, ![16, 113]⟩
abbrev S1x16x113 : Shape := ⟨3, ![1, 16, 113]⟩
abbrev S16x1x113 : Shape := ⟨3, ![16, 1, 113]⟩
abbrev S16x16x112 : Shape := ⟨3, ![16, 16, 112]⟩
abbrev S16x112 : Shape := ⟨2, ![16, 112]⟩
abbrev S1x16x112 : Shape := ⟨3, ![1, 16, 112]⟩
abbrev S16x1x112 : Shape := ⟨3, ![16, 1, 112]⟩
abbrev S16x16x111 : Shape := ⟨3, ![16, 16, 111]⟩
abbrev S16x111 : Shape := ⟨2, ![16, 111]⟩
abbrev S1x16x111 : Shape := ⟨3, ![1, 16, 111]⟩
abbrev S16x1x111 : Shape := ⟨3, ![16, 1, 111]⟩
abbrev S16x16x110 : Shape := ⟨3, ![16, 16, 110]⟩
abbrev S16x110 : Shape := ⟨2, ![16, 110]⟩
abbrev S1x16x110 : Shape := ⟨3, ![1, 16, 110]⟩
abbrev S2x16x110 : Shape := ⟨3, ![2, 16, 110]⟩
abbrev S16x1x110 : Shape := ⟨3, ![16, 1, 110]⟩
abbrev S16x16x109 : Shape := ⟨3, ![16, 16, 109]⟩
abbrev S16x109 : Shape := ⟨2, ![16, 109]⟩
abbrev S1x16x109 : Shape := ⟨3, ![1, 16, 109]⟩
abbrev S3x16x109 : Shape := ⟨3, ![3, 16, 109]⟩
abbrev S16x1x109 : Shape := ⟨3, ![16, 1, 109]⟩
abbrev S16x16x108 : Shape := ⟨3, ![16, 16, 108]⟩
abbrev S16x108 : Shape := ⟨2, ![16, 108]⟩
abbrev S1x16x108 : Shape := ⟨3, ![1, 16, 108]⟩
abbrev S4x16x108 : Shape := ⟨3, ![4, 16, 108]⟩
abbrev S16x1x108 : Shape := ⟨3, ![16, 1, 108]⟩
abbrev S16x16x107 : Shape := ⟨3, ![16, 16, 107]⟩
abbrev S16x107 : Shape := ⟨2, ![16, 107]⟩
abbrev S1x16x107 : Shape := ⟨3, ![1, 16, 107]⟩
abbrev S5x16x107 : Shape := ⟨3, ![5, 16, 107]⟩
abbrev S16x1x107 : Shape := ⟨3, ![16, 1, 107]⟩
abbrev S16x16x106 : Shape := ⟨3, ![16, 16, 106]⟩
abbrev S16x106 : Shape := ⟨2, ![16, 106]⟩
abbrev S1x16x106 : Shape := ⟨3, ![1, 16, 106]⟩
abbrev S6x16x106 : Shape := ⟨3, ![6, 16, 106]⟩
abbrev S16x1x106 : Shape := ⟨3, ![16, 1, 106]⟩
abbrev S16x16x105 : Shape := ⟨3, ![16, 16, 105]⟩
abbrev S16x105 : Shape := ⟨2, ![16, 105]⟩
abbrev S1x16x105 : Shape := ⟨3, ![1, 16, 105]⟩
abbrev S7x16x105 : Shape := ⟨3, ![7, 16, 105]⟩
abbrev S16x1x105 : Shape := ⟨3, ![16, 1, 105]⟩
abbrev S16x16x104 : Shape := ⟨3, ![16, 16, 104]⟩
abbrev S16x104 : Shape := ⟨2, ![16, 104]⟩
abbrev S1x16x104 : Shape := ⟨3, ![1, 16, 104]⟩
abbrev S8x16x104 : Shape := ⟨3, ![8, 16, 104]⟩
abbrev S16x1x104 : Shape := ⟨3, ![16, 1, 104]⟩
abbrev S16x16x103 : Shape := ⟨3, ![16, 16, 103]⟩
abbrev S16x103 : Shape := ⟨2, ![16, 103]⟩
abbrev S1x16x103 : Shape := ⟨3, ![1, 16, 103]⟩
abbrev S9x16x103 : Shape := ⟨3, ![9, 16, 103]⟩
abbrev S16x1x103 : Shape := ⟨3, ![16, 1, 103]⟩
abbrev S16x16x102 : Shape := ⟨3, ![16, 16, 102]⟩
abbrev S16x102 : Shape := ⟨2, ![16, 102]⟩
abbrev S1x16x102 : Shape := ⟨3, ![1, 16, 102]⟩
abbrev S10x16x102 : Shape := ⟨3, ![10, 16, 102]⟩
abbrev S16x1x102 : Shape := ⟨3, ![16, 1, 102]⟩
abbrev S16x16x101 : Shape := ⟨3, ![16, 16, 101]⟩
abbrev S16x101 : Shape := ⟨2, ![16, 101]⟩
abbrev S1x16x101 : Shape := ⟨3, ![1, 16, 101]⟩
abbrev S11x16x101 : Shape := ⟨3, ![11, 16, 101]⟩
abbrev S16x1x101 : Shape := ⟨3, ![16, 1, 101]⟩
abbrev S16x16x100 : Shape := ⟨3, ![16, 16, 100]⟩
abbrev S16x100 : Shape := ⟨2, ![16, 100]⟩
abbrev S1x16x100 : Shape := ⟨3, ![1, 16, 100]⟩
abbrev S12x16x100 : Shape := ⟨3, ![12, 16, 100]⟩
abbrev S16x1x100 : Shape := ⟨3, ![16, 1, 100]⟩
abbrev S16x16x99 : Shape := ⟨3, ![16, 16, 99]⟩
abbrev S16x99 : Shape := ⟨2, ![16, 99]⟩
abbrev S1x16x99 : Shape := ⟨3, ![1, 16, 99]⟩
abbrev S13x16x99 : Shape := ⟨3, ![13, 16, 99]⟩
abbrev S16x1x99 : Shape := ⟨3, ![16, 1, 99]⟩
abbrev S16x16x98 : Shape := ⟨3, ![16, 16, 98]⟩
abbrev S16x98 : Shape := ⟨2, ![16, 98]⟩
abbrev S1x16x98 : Shape := ⟨3, ![1, 16, 98]⟩
abbrev S14x16x98 : Shape := ⟨3, ![14, 16, 98]⟩
abbrev S16x1x98 : Shape := ⟨3, ![16, 1, 98]⟩
abbrev S16x16x97 : Shape := ⟨3, ![16, 16, 97]⟩
abbrev S16x97 : Shape := ⟨2, ![16, 97]⟩
abbrev S1x16x97 : Shape := ⟨3, ![1, 16, 97]⟩
abbrev S15x16x97 : Shape := ⟨3, ![15, 16, 97]⟩
abbrev S16x1x97 : Shape := ⟨3, ![16, 1, 97]⟩
abbrev S16x16x96 : Shape := ⟨3, ![16, 16, 96]⟩
abbrev S16x96 : Shape := ⟨2, ![16, 96]⟩
abbrev S1x16x96 : Shape := ⟨3, ![1, 16, 96]⟩
abbrev S16x1x96 : Shape := ⟨3, ![16, 1, 96]⟩
abbrev S16x16x95 : Shape := ⟨3, ![16, 16, 95]⟩
abbrev S16x95 : Shape := ⟨2, ![16, 95]⟩
abbrev S1x16x95 : Shape := ⟨3, ![1, 16, 95]⟩
abbrev S16x1x95 : Shape := ⟨3, ![16, 1, 95]⟩
abbrev S16x16x94 : Shape := ⟨3, ![16, 16, 94]⟩
abbrev S16x94 : Shape := ⟨2, ![16, 94]⟩
abbrev S1x16x94 : Shape := ⟨3, ![1, 16, 94]⟩
abbrev S2x16x94 : Shape := ⟨3, ![2, 16, 94]⟩
abbrev S16x1x94 : Shape := ⟨3, ![16, 1, 94]⟩
abbrev S16x16x93 : Shape := ⟨3, ![16, 16, 93]⟩
abbrev S16x93 : Shape := ⟨2, ![16, 93]⟩
abbrev S1x16x93 : Shape := ⟨3, ![1, 16, 93]⟩
abbrev S3x16x93 : Shape := ⟨3, ![3, 16, 93]⟩
abbrev S16x1x93 : Shape := ⟨3, ![16, 1, 93]⟩
abbrev S16x16x92 : Shape := ⟨3, ![16, 16, 92]⟩
abbrev S16x92 : Shape := ⟨2, ![16, 92]⟩
abbrev S1x16x92 : Shape := ⟨3, ![1, 16, 92]⟩
abbrev S4x16x92 : Shape := ⟨3, ![4, 16, 92]⟩
abbrev S16x1x92 : Shape := ⟨3, ![16, 1, 92]⟩
abbrev S16x16x91 : Shape := ⟨3, ![16, 16, 91]⟩
abbrev S16x91 : Shape := ⟨2, ![16, 91]⟩
abbrev S1x16x91 : Shape := ⟨3, ![1, 16, 91]⟩
abbrev S5x16x91 : Shape := ⟨3, ![5, 16, 91]⟩
abbrev S16x1x91 : Shape := ⟨3, ![16, 1, 91]⟩
abbrev S16x16x90 : Shape := ⟨3, ![16, 16, 90]⟩
abbrev S16x90 : Shape := ⟨2, ![16, 90]⟩
abbrev S1x16x90 : Shape := ⟨3, ![1, 16, 90]⟩
abbrev S6x16x90 : Shape := ⟨3, ![6, 16, 90]⟩
abbrev S16x1x90 : Shape := ⟨3, ![16, 1, 90]⟩
abbrev S16x16x89 : Shape := ⟨3, ![16, 16, 89]⟩
abbrev S16x89 : Shape := ⟨2, ![16, 89]⟩
abbrev S1x16x89 : Shape := ⟨3, ![1, 16, 89]⟩
abbrev S7x16x89 : Shape := ⟨3, ![7, 16, 89]⟩
abbrev S16x1x89 : Shape := ⟨3, ![16, 1, 89]⟩
abbrev S16x16x88 : Shape := ⟨3, ![16, 16, 88]⟩
abbrev S16x88 : Shape := ⟨2, ![16, 88]⟩
abbrev S1x16x88 : Shape := ⟨3, ![1, 16, 88]⟩
abbrev S8x16x88 : Shape := ⟨3, ![8, 16, 88]⟩
abbrev S16x1x88 : Shape := ⟨3, ![16, 1, 88]⟩
abbrev S16x16x87 : Shape := ⟨3, ![16, 16, 87]⟩
abbrev S16x87 : Shape := ⟨2, ![16, 87]⟩
abbrev S1x16x87 : Shape := ⟨3, ![1, 16, 87]⟩
abbrev S9x16x87 : Shape := ⟨3, ![9, 16, 87]⟩
abbrev S16x1x87 : Shape := ⟨3, ![16, 1, 87]⟩
abbrev S16x16x86 : Shape := ⟨3, ![16, 16, 86]⟩
abbrev S16x86 : Shape := ⟨2, ![16, 86]⟩
abbrev S1x16x86 : Shape := ⟨3, ![1, 16, 86]⟩
abbrev S10x16x86 : Shape := ⟨3, ![10, 16, 86]⟩
abbrev S16x1x86 : Shape := ⟨3, ![16, 1, 86]⟩
abbrev S16x16x85 : Shape := ⟨3, ![16, 16, 85]⟩
abbrev S16x85 : Shape := ⟨2, ![16, 85]⟩
abbrev S1x16x85 : Shape := ⟨3, ![1, 16, 85]⟩
abbrev S11x16x85 : Shape := ⟨3, ![11, 16, 85]⟩
abbrev S16x1x85 : Shape := ⟨3, ![16, 1, 85]⟩
abbrev S16x16x84 : Shape := ⟨3, ![16, 16, 84]⟩
abbrev S16x84 : Shape := ⟨2, ![16, 84]⟩
abbrev S1x16x84 : Shape := ⟨3, ![1, 16, 84]⟩
abbrev S12x16x84 : Shape := ⟨3, ![12, 16, 84]⟩
abbrev S16x1x84 : Shape := ⟨3, ![16, 1, 84]⟩
abbrev S16x16x83 : Shape := ⟨3, ![16, 16, 83]⟩
abbrev S16x83 : Shape := ⟨2, ![16, 83]⟩
abbrev S1x16x83 : Shape := ⟨3, ![1, 16, 83]⟩
abbrev S13x16x83 : Shape := ⟨3, ![13, 16, 83]⟩
abbrev S16x1x83 : Shape := ⟨3, ![16, 1, 83]⟩
abbrev S16x16x82 : Shape := ⟨3, ![16, 16, 82]⟩
abbrev S16x82 : Shape := ⟨2, ![16, 82]⟩
abbrev S1x16x82 : Shape := ⟨3, ![1, 16, 82]⟩
abbrev S14x16x82 : Shape := ⟨3, ![14, 16, 82]⟩
abbrev S16x1x82 : Shape := ⟨3, ![16, 1, 82]⟩
abbrev S16x16x81 : Shape := ⟨3, ![16, 16, 81]⟩
abbrev S16x81 : Shape := ⟨2, ![16, 81]⟩
abbrev S1x16x81 : Shape := ⟨3, ![1, 16, 81]⟩
abbrev S15x16x81 : Shape := ⟨3, ![15, 16, 81]⟩
abbrev S16x1x81 : Shape := ⟨3, ![16, 1, 81]⟩
abbrev S16x16x80 : Shape := ⟨3, ![16, 16, 80]⟩
abbrev S16x80 : Shape := ⟨2, ![16, 80]⟩
abbrev S1x16x80 : Shape := ⟨3, ![1, 16, 80]⟩
abbrev S16x1x80 : Shape := ⟨3, ![16, 1, 80]⟩
abbrev S16x16x79 : Shape := ⟨3, ![16, 16, 79]⟩
abbrev S16x79 : Shape := ⟨2, ![16, 79]⟩
abbrev S1x16x79 : Shape := ⟨3, ![1, 16, 79]⟩
abbrev S16x1x79 : Shape := ⟨3, ![16, 1, 79]⟩
abbrev S16x16x78 : Shape := ⟨3, ![16, 16, 78]⟩
abbrev S16x78 : Shape := ⟨2, ![16, 78]⟩
abbrev S1x16x78 : Shape := ⟨3, ![1, 16, 78]⟩
abbrev S2x16x78 : Shape := ⟨3, ![2, 16, 78]⟩
abbrev S16x1x78 : Shape := ⟨3, ![16, 1, 78]⟩
abbrev S16x16x77 : Shape := ⟨3, ![16, 16, 77]⟩
abbrev S16x77 : Shape := ⟨2, ![16, 77]⟩
abbrev S1x16x77 : Shape := ⟨3, ![1, 16, 77]⟩
abbrev S3x16x77 : Shape := ⟨3, ![3, 16, 77]⟩
abbrev S16x1x77 : Shape := ⟨3, ![16, 1, 77]⟩
abbrev S16x16x76 : Shape := ⟨3, ![16, 16, 76]⟩
abbrev S16x76 : Shape := ⟨2, ![16, 76]⟩
abbrev S1x16x76 : Shape := ⟨3, ![1, 16, 76]⟩
abbrev S4x16x76 : Shape := ⟨3, ![4, 16, 76]⟩
abbrev S16x1x76 : Shape := ⟨3, ![16, 1, 76]⟩
abbrev S16x16x75 : Shape := ⟨3, ![16, 16, 75]⟩
abbrev S16x75 : Shape := ⟨2, ![16, 75]⟩
abbrev S1x16x75 : Shape := ⟨3, ![1, 16, 75]⟩
abbrev S5x16x75 : Shape := ⟨3, ![5, 16, 75]⟩
abbrev S16x1x75 : Shape := ⟨3, ![16, 1, 75]⟩
abbrev S16x16x74 : Shape := ⟨3, ![16, 16, 74]⟩
abbrev S16x74 : Shape := ⟨2, ![16, 74]⟩
abbrev S1x16x74 : Shape := ⟨3, ![1, 16, 74]⟩
abbrev S6x16x74 : Shape := ⟨3, ![6, 16, 74]⟩
abbrev S16x1x74 : Shape := ⟨3, ![16, 1, 74]⟩
abbrev S16x16x73 : Shape := ⟨3, ![16, 16, 73]⟩
abbrev S16x73 : Shape := ⟨2, ![16, 73]⟩
abbrev S1x16x73 : Shape := ⟨3, ![1, 16, 73]⟩
abbrev S7x16x73 : Shape := ⟨3, ![7, 16, 73]⟩
abbrev S16x1x73 : Shape := ⟨3, ![16, 1, 73]⟩
abbrev S16x16x72 : Shape := ⟨3, ![16, 16, 72]⟩
abbrev S16x72 : Shape := ⟨2, ![16, 72]⟩
abbrev S1x16x72 : Shape := ⟨3, ![1, 16, 72]⟩
abbrev S8x16x72 : Shape := ⟨3, ![8, 16, 72]⟩
abbrev S16x1x72 : Shape := ⟨3, ![16, 1, 72]⟩
abbrev S16x16x71 : Shape := ⟨3, ![16, 16, 71]⟩
abbrev S16x71 : Shape := ⟨2, ![16, 71]⟩
abbrev S1x16x71 : Shape := ⟨3, ![1, 16, 71]⟩
abbrev S9x16x71 : Shape := ⟨3, ![9, 16, 71]⟩
abbrev S16x1x71 : Shape := ⟨3, ![16, 1, 71]⟩
abbrev S16x16x70 : Shape := ⟨3, ![16, 16, 70]⟩
abbrev S16x70 : Shape := ⟨2, ![16, 70]⟩
abbrev S1x16x70 : Shape := ⟨3, ![1, 16, 70]⟩
abbrev S10x16x70 : Shape := ⟨3, ![10, 16, 70]⟩
abbrev S16x1x70 : Shape := ⟨3, ![16, 1, 70]⟩
abbrev S16x16x69 : Shape := ⟨3, ![16, 16, 69]⟩
abbrev S16x69 : Shape := ⟨2, ![16, 69]⟩
abbrev S1x16x69 : Shape := ⟨3, ![1, 16, 69]⟩
abbrev S11x16x69 : Shape := ⟨3, ![11, 16, 69]⟩
abbrev S16x1x69 : Shape := ⟨3, ![16, 1, 69]⟩
abbrev S16x16x68 : Shape := ⟨3, ![16, 16, 68]⟩
abbrev S16x68 : Shape := ⟨2, ![16, 68]⟩
abbrev S1x16x68 : Shape := ⟨3, ![1, 16, 68]⟩
abbrev S12x16x68 : Shape := ⟨3, ![12, 16, 68]⟩
abbrev S16x1x68 : Shape := ⟨3, ![16, 1, 68]⟩
abbrev S16x16x67 : Shape := ⟨3, ![16, 16, 67]⟩
abbrev S16x67 : Shape := ⟨2, ![16, 67]⟩
abbrev S1x16x67 : Shape := ⟨3, ![1, 16, 67]⟩
abbrev S13x16x67 : Shape := ⟨3, ![13, 16, 67]⟩
abbrev S16x1x67 : Shape := ⟨3, ![16, 1, 67]⟩
abbrev S16x16x66 : Shape := ⟨3, ![16, 16, 66]⟩
abbrev S16x66 : Shape := ⟨2, ![16, 66]⟩
abbrev S1x16x66 : Shape := ⟨3, ![1, 16, 66]⟩
abbrev S14x16x66 : Shape := ⟨3, ![14, 16, 66]⟩
abbrev S16x1x66 : Shape := ⟨3, ![16, 1, 66]⟩
abbrev S16x16x65 : Shape := ⟨3, ![16, 16, 65]⟩
abbrev S16x65 : Shape := ⟨2, ![16, 65]⟩
abbrev S1x16x65 : Shape := ⟨3, ![1, 16, 65]⟩
abbrev S15x16x65 : Shape := ⟨3, ![15, 16, 65]⟩
abbrev S16x1x65 : Shape := ⟨3, ![16, 1, 65]⟩
abbrev S16x16x64 : Shape := ⟨3, ![16, 16, 64]⟩
abbrev S16x64 : Shape := ⟨2, ![16, 64]⟩
abbrev S1x16x64 : Shape := ⟨3, ![1, 16, 64]⟩
abbrev S16x1x64 : Shape := ⟨3, ![16, 1, 64]⟩
abbrev S16x16x63 : Shape := ⟨3, ![16, 16, 63]⟩
abbrev S16x63 : Shape := ⟨2, ![16, 63]⟩
abbrev S1x16x63 : Shape := ⟨3, ![1, 16, 63]⟩
abbrev S16x1x63 : Shape := ⟨3, ![16, 1, 63]⟩
abbrev S16x16x62 : Shape := ⟨3, ![16, 16, 62]⟩
abbrev S16x62 : Shape := ⟨2, ![16, 62]⟩
abbrev S1x16x62 : Shape := ⟨3, ![1, 16, 62]⟩
abbrev S2x16x62 : Shape := ⟨3, ![2, 16, 62]⟩
abbrev S16x1x62 : Shape := ⟨3, ![16, 1, 62]⟩
abbrev S16x16x61 : Shape := ⟨3, ![16, 16, 61]⟩
abbrev S16x61 : Shape := ⟨2, ![16, 61]⟩
abbrev S1x16x61 : Shape := ⟨3, ![1, 16, 61]⟩
abbrev S3x16x61 : Shape := ⟨3, ![3, 16, 61]⟩
abbrev S16x1x61 : Shape := ⟨3, ![16, 1, 61]⟩
abbrev S16x16x60 : Shape := ⟨3, ![16, 16, 60]⟩
abbrev S16x60 : Shape := ⟨2, ![16, 60]⟩
abbrev S1x16x60 : Shape := ⟨3, ![1, 16, 60]⟩
abbrev S4x16x60 : Shape := ⟨3, ![4, 16, 60]⟩
abbrev S16x1x60 : Shape := ⟨3, ![16, 1, 60]⟩
abbrev S16x16x59 : Shape := ⟨3, ![16, 16, 59]⟩
abbrev S16x59 : Shape := ⟨2, ![16, 59]⟩
abbrev S1x16x59 : Shape := ⟨3, ![1, 16, 59]⟩
abbrev S5x16x59 : Shape := ⟨3, ![5, 16, 59]⟩
abbrev S16x1x59 : Shape := ⟨3, ![16, 1, 59]⟩
abbrev S16x16x58 : Shape := ⟨3, ![16, 16, 58]⟩
abbrev S16x58 : Shape := ⟨2, ![16, 58]⟩
abbrev S1x16x58 : Shape := ⟨3, ![1, 16, 58]⟩
abbrev S6x16x58 : Shape := ⟨3, ![6, 16, 58]⟩
abbrev S16x1x58 : Shape := ⟨3, ![16, 1, 58]⟩
abbrev S16x16x57 : Shape := ⟨3, ![16, 16, 57]⟩
abbrev S16x57 : Shape := ⟨2, ![16, 57]⟩
abbrev S1x16x57 : Shape := ⟨3, ![1, 16, 57]⟩
abbrev S7x16x57 : Shape := ⟨3, ![7, 16, 57]⟩
abbrev S16x1x57 : Shape := ⟨3, ![16, 1, 57]⟩
abbrev S16x16x56 : Shape := ⟨3, ![16, 16, 56]⟩
abbrev S16x56 : Shape := ⟨2, ![16, 56]⟩
abbrev S1x16x56 : Shape := ⟨3, ![1, 16, 56]⟩
abbrev S8x16x56 : Shape := ⟨3, ![8, 16, 56]⟩
abbrev S16x1x56 : Shape := ⟨3, ![16, 1, 56]⟩
abbrev S16x16x55 : Shape := ⟨3, ![16, 16, 55]⟩
abbrev S16x55 : Shape := ⟨2, ![16, 55]⟩
abbrev S1x16x55 : Shape := ⟨3, ![1, 16, 55]⟩
abbrev S9x16x55 : Shape := ⟨3, ![9, 16, 55]⟩
abbrev S16x1x55 : Shape := ⟨3, ![16, 1, 55]⟩
abbrev S16x16x54 : Shape := ⟨3, ![16, 16, 54]⟩
abbrev S16x54 : Shape := ⟨2, ![16, 54]⟩
abbrev S1x16x54 : Shape := ⟨3, ![1, 16, 54]⟩
abbrev S10x16x54 : Shape := ⟨3, ![10, 16, 54]⟩
abbrev S16x1x54 : Shape := ⟨3, ![16, 1, 54]⟩
abbrev S16x16x53 : Shape := ⟨3, ![16, 16, 53]⟩
abbrev S16x53 : Shape := ⟨2, ![16, 53]⟩
abbrev S1x16x53 : Shape := ⟨3, ![1, 16, 53]⟩
abbrev S11x16x53 : Shape := ⟨3, ![11, 16, 53]⟩
abbrev S16x1x53 : Shape := ⟨3, ![16, 1, 53]⟩
abbrev S16x16x52 : Shape := ⟨3, ![16, 16, 52]⟩
abbrev S16x52 : Shape := ⟨2, ![16, 52]⟩
abbrev S1x16x52 : Shape := ⟨3, ![1, 16, 52]⟩
abbrev S12x16x52 : Shape := ⟨3, ![12, 16, 52]⟩
abbrev S16x1x52 : Shape := ⟨3, ![16, 1, 52]⟩
abbrev S16x16x51 : Shape := ⟨3, ![16, 16, 51]⟩
abbrev S16x51 : Shape := ⟨2, ![16, 51]⟩
abbrev S1x16x51 : Shape := ⟨3, ![1, 16, 51]⟩
abbrev S13x16x51 : Shape := ⟨3, ![13, 16, 51]⟩
abbrev S16x1x51 : Shape := ⟨3, ![16, 1, 51]⟩
abbrev S16x16x50 : Shape := ⟨3, ![16, 16, 50]⟩
abbrev S16x50 : Shape := ⟨2, ![16, 50]⟩
abbrev S1x16x50 : Shape := ⟨3, ![1, 16, 50]⟩
abbrev S14x16x50 : Shape := ⟨3, ![14, 16, 50]⟩
abbrev S16x1x50 : Shape := ⟨3, ![16, 1, 50]⟩
abbrev S16x16x49 : Shape := ⟨3, ![16, 16, 49]⟩
abbrev S16x49 : Shape := ⟨2, ![16, 49]⟩
abbrev S1x16x49 : Shape := ⟨3, ![1, 16, 49]⟩
abbrev S15x16x49 : Shape := ⟨3, ![15, 16, 49]⟩
abbrev S16x1x49 : Shape := ⟨3, ![16, 1, 49]⟩
abbrev S16x16x48 : Shape := ⟨3, ![16, 16, 48]⟩
abbrev S16x48 : Shape := ⟨2, ![16, 48]⟩
abbrev S1x16x48 : Shape := ⟨3, ![1, 16, 48]⟩
abbrev S16x1x48 : Shape := ⟨3, ![16, 1, 48]⟩
abbrev S16x16x47 : Shape := ⟨3, ![16, 16, 47]⟩
abbrev S16x47 : Shape := ⟨2, ![16, 47]⟩
abbrev S1x16x47 : Shape := ⟨3, ![1, 16, 47]⟩
abbrev S16x1x47 : Shape := ⟨3, ![16, 1, 47]⟩
abbrev S16x16x46 : Shape := ⟨3, ![16, 16, 46]⟩
abbrev S16x46 : Shape := ⟨2, ![16, 46]⟩
abbrev S1x16x46 : Shape := ⟨3, ![1, 16, 46]⟩
abbrev S2x16x46 : Shape := ⟨3, ![2, 16, 46]⟩
abbrev S16x1x46 : Shape := ⟨3, ![16, 1, 46]⟩
abbrev S16x16x45 : Shape := ⟨3, ![16, 16, 45]⟩
abbrev S16x45 : Shape := ⟨2, ![16, 45]⟩
abbrev S1x16x45 : Shape := ⟨3, ![1, 16, 45]⟩
abbrev S3x16x45 : Shape := ⟨3, ![3, 16, 45]⟩
abbrev S16x1x45 : Shape := ⟨3, ![16, 1, 45]⟩
abbrev S16x16x44 : Shape := ⟨3, ![16, 16, 44]⟩
abbrev S16x44 : Shape := ⟨2, ![16, 44]⟩
abbrev S1x16x44 : Shape := ⟨3, ![1, 16, 44]⟩
abbrev S4x16x44 : Shape := ⟨3, ![4, 16, 44]⟩
abbrev S16x1x44 : Shape := ⟨3, ![16, 1, 44]⟩
abbrev S16x16x43 : Shape := ⟨3, ![16, 16, 43]⟩
abbrev S16x43 : Shape := ⟨2, ![16, 43]⟩
abbrev S1x16x43 : Shape := ⟨3, ![1, 16, 43]⟩
abbrev S5x16x43 : Shape := ⟨3, ![5, 16, 43]⟩
abbrev S16x1x43 : Shape := ⟨3, ![16, 1, 43]⟩
abbrev S16x16x42 : Shape := ⟨3, ![16, 16, 42]⟩
abbrev S16x42 : Shape := ⟨2, ![16, 42]⟩
abbrev S1x16x42 : Shape := ⟨3, ![1, 16, 42]⟩
abbrev S6x16x42 : Shape := ⟨3, ![6, 16, 42]⟩
abbrev S16x1x42 : Shape := ⟨3, ![16, 1, 42]⟩
abbrev S16x16x41 : Shape := ⟨3, ![16, 16, 41]⟩
abbrev S16x41 : Shape := ⟨2, ![16, 41]⟩
abbrev S1x16x41 : Shape := ⟨3, ![1, 16, 41]⟩
abbrev S7x16x41 : Shape := ⟨3, ![7, 16, 41]⟩
abbrev S16x1x41 : Shape := ⟨3, ![16, 1, 41]⟩
abbrev S16x16x40 : Shape := ⟨3, ![16, 16, 40]⟩
abbrev S16x40 : Shape := ⟨2, ![16, 40]⟩
abbrev S1x16x40 : Shape := ⟨3, ![1, 16, 40]⟩
abbrev S8x16x40 : Shape := ⟨3, ![8, 16, 40]⟩
abbrev S16x1x40 : Shape := ⟨3, ![16, 1, 40]⟩
abbrev S16x16x39 : Shape := ⟨3, ![16, 16, 39]⟩
abbrev S16x39 : Shape := ⟨2, ![16, 39]⟩
abbrev S1x16x39 : Shape := ⟨3, ![1, 16, 39]⟩
abbrev S9x16x39 : Shape := ⟨3, ![9, 16, 39]⟩
abbrev S16x1x39 : Shape := ⟨3, ![16, 1, 39]⟩
abbrev S16x16x38 : Shape := ⟨3, ![16, 16, 38]⟩
abbrev S16x38 : Shape := ⟨2, ![16, 38]⟩
abbrev S1x16x38 : Shape := ⟨3, ![1, 16, 38]⟩
abbrev S10x16x38 : Shape := ⟨3, ![10, 16, 38]⟩
abbrev S16x1x38 : Shape := ⟨3, ![16, 1, 38]⟩
abbrev S16x16x37 : Shape := ⟨3, ![16, 16, 37]⟩
abbrev S16x37 : Shape := ⟨2, ![16, 37]⟩
abbrev S1x16x37 : Shape := ⟨3, ![1, 16, 37]⟩
abbrev S11x16x37 : Shape := ⟨3, ![11, 16, 37]⟩
abbrev S16x1x37 : Shape := ⟨3, ![16, 1, 37]⟩
abbrev S16x16x36 : Shape := ⟨3, ![16, 16, 36]⟩
abbrev S16x36 : Shape := ⟨2, ![16, 36]⟩
abbrev S1x16x36 : Shape := ⟨3, ![1, 16, 36]⟩
abbrev S12x16x36 : Shape := ⟨3, ![12, 16, 36]⟩
abbrev S16x1x36 : Shape := ⟨3, ![16, 1, 36]⟩
abbrev S16x16x35 : Shape := ⟨3, ![16, 16, 35]⟩
abbrev S16x35 : Shape := ⟨2, ![16, 35]⟩
abbrev S1x16x35 : Shape := ⟨3, ![1, 16, 35]⟩
abbrev S13x16x35 : Shape := ⟨3, ![13, 16, 35]⟩
abbrev S16x1x35 : Shape := ⟨3, ![16, 1, 35]⟩
abbrev S16x16x34 : Shape := ⟨3, ![16, 16, 34]⟩
abbrev S16x34 : Shape := ⟨2, ![16, 34]⟩
abbrev S1x16x34 : Shape := ⟨3, ![1, 16, 34]⟩
abbrev S14x16x34 : Shape := ⟨3, ![14, 16, 34]⟩
abbrev S16x1x34 : Shape := ⟨3, ![16, 1, 34]⟩
abbrev S16x16x33 : Shape := ⟨3, ![16, 16, 33]⟩
abbrev S16x33 : Shape := ⟨2, ![16, 33]⟩
abbrev S1x16x33 : Shape := ⟨3, ![1, 16, 33]⟩
abbrev S15x16x33 : Shape := ⟨3, ![15, 16, 33]⟩
abbrev S16x1x33 : Shape := ⟨3, ![16, 1, 33]⟩
abbrev S16x16x32 : Shape := ⟨3, ![16, 16, 32]⟩
abbrev S16x32 : Shape := ⟨2, ![16, 32]⟩
abbrev S1x16x32 : Shape := ⟨3, ![1, 16, 32]⟩
abbrev S16x1x32 : Shape := ⟨3, ![16, 1, 32]⟩
abbrev S16x16x31 : Shape := ⟨3, ![16, 16, 31]⟩
abbrev S16x31 : Shape := ⟨2, ![16, 31]⟩
abbrev S1x16x31 : Shape := ⟨3, ![1, 16, 31]⟩
abbrev S16x1x31 : Shape := ⟨3, ![16, 1, 31]⟩
abbrev S16x16x30 : Shape := ⟨3, ![16, 16, 30]⟩
abbrev S16x30 : Shape := ⟨2, ![16, 30]⟩
abbrev S1x16x30 : Shape := ⟨3, ![1, 16, 30]⟩
abbrev S2x16x30 : Shape := ⟨3, ![2, 16, 30]⟩
abbrev S16x1x30 : Shape := ⟨3, ![16, 1, 30]⟩
abbrev S16x16x29 : Shape := ⟨3, ![16, 16, 29]⟩
abbrev S16x29 : Shape := ⟨2, ![16, 29]⟩
abbrev S1x16x29 : Shape := ⟨3, ![1, 16, 29]⟩
abbrev S3x16x29 : Shape := ⟨3, ![3, 16, 29]⟩
abbrev S16x1x29 : Shape := ⟨3, ![16, 1, 29]⟩
abbrev S16x16x28 : Shape := ⟨3, ![16, 16, 28]⟩
abbrev S16x28 : Shape := ⟨2, ![16, 28]⟩
abbrev S1x16x28 : Shape := ⟨3, ![1, 16, 28]⟩
abbrev S4x16x28 : Shape := ⟨3, ![4, 16, 28]⟩
abbrev S16x1x28 : Shape := ⟨3, ![16, 1, 28]⟩
abbrev S16x16x27 : Shape := ⟨3, ![16, 16, 27]⟩
abbrev S16x27 : Shape := ⟨2, ![16, 27]⟩
abbrev S1x16x27 : Shape := ⟨3, ![1, 16, 27]⟩
abbrev S5x16x27 : Shape := ⟨3, ![5, 16, 27]⟩
abbrev S16x1x27 : Shape := ⟨3, ![16, 1, 27]⟩
abbrev S16x16x26 : Shape := ⟨3, ![16, 16, 26]⟩
abbrev S16x26 : Shape := ⟨2, ![16, 26]⟩
abbrev S1x16x26 : Shape := ⟨3, ![1, 16, 26]⟩
abbrev S6x16x26 : Shape := ⟨3, ![6, 16, 26]⟩
abbrev S16x1x26 : Shape := ⟨3, ![16, 1, 26]⟩
abbrev S16x16x25 : Shape := ⟨3, ![16, 16, 25]⟩
abbrev S16x25 : Shape := ⟨2, ![16, 25]⟩
abbrev S1x16x25 : Shape := ⟨3, ![1, 16, 25]⟩
abbrev S7x16x25 : Shape := ⟨3, ![7, 16, 25]⟩
abbrev S16x1x25 : Shape := ⟨3, ![16, 1, 25]⟩
abbrev S16x16x24 : Shape := ⟨3, ![16, 16, 24]⟩
abbrev S16x24 : Shape := ⟨2, ![16, 24]⟩
abbrev S1x16x24 : Shape := ⟨3, ![1, 16, 24]⟩
abbrev S8x16x24 : Shape := ⟨3, ![8, 16, 24]⟩
abbrev S16x1x24 : Shape := ⟨3, ![16, 1, 24]⟩
abbrev S16x16x23 : Shape := ⟨3, ![16, 16, 23]⟩
abbrev S16x23 : Shape := ⟨2, ![16, 23]⟩
abbrev S1x16x23 : Shape := ⟨3, ![1, 16, 23]⟩
abbrev S9x16x23 : Shape := ⟨3, ![9, 16, 23]⟩
abbrev S16x1x23 : Shape := ⟨3, ![16, 1, 23]⟩
abbrev S16x16x22 : Shape := ⟨3, ![16, 16, 22]⟩
abbrev S16x22 : Shape := ⟨2, ![16, 22]⟩
abbrev S1x16x22 : Shape := ⟨3, ![1, 16, 22]⟩
abbrev S10x16x22 : Shape := ⟨3, ![10, 16, 22]⟩
abbrev S16x1x22 : Shape := ⟨3, ![16, 1, 22]⟩
abbrev S16x16x21 : Shape := ⟨3, ![16, 16, 21]⟩
abbrev S16x21 : Shape := ⟨2, ![16, 21]⟩
abbrev S1x16x21 : Shape := ⟨3, ![1, 16, 21]⟩
abbrev S11x16x21 : Shape := ⟨3, ![11, 16, 21]⟩
abbrev S16x1x21 : Shape := ⟨3, ![16, 1, 21]⟩
abbrev S16x16x20 : Shape := ⟨3, ![16, 16, 20]⟩
abbrev S16x20 : Shape := ⟨2, ![16, 20]⟩
abbrev S1x16x20 : Shape := ⟨3, ![1, 16, 20]⟩
abbrev S12x16x20 : Shape := ⟨3, ![12, 16, 20]⟩
abbrev S16x1x20 : Shape := ⟨3, ![16, 1, 20]⟩
abbrev S16x16x19 : Shape := ⟨3, ![16, 16, 19]⟩
abbrev S16x19 : Shape := ⟨2, ![16, 19]⟩
abbrev S1x16x19 : Shape := ⟨3, ![1, 16, 19]⟩
abbrev S13x16x19 : Shape := ⟨3, ![13, 16, 19]⟩
abbrev S16x1x19 : Shape := ⟨3, ![16, 1, 19]⟩
abbrev S16x16x18 : Shape := ⟨3, ![16, 16, 18]⟩
abbrev S16x18 : Shape := ⟨2, ![16, 18]⟩
abbrev S1x16x18 : Shape := ⟨3, ![1, 16, 18]⟩
abbrev S14x16x18 : Shape := ⟨3, ![14, 16, 18]⟩
abbrev S16x1x18 : Shape := ⟨3, ![16, 1, 18]⟩
abbrev S16x16x17 : Shape := ⟨3, ![16, 16, 17]⟩
abbrev S16x17 : Shape := ⟨2, ![16, 17]⟩
abbrev S1x16x17 : Shape := ⟨3, ![1, 16, 17]⟩
abbrev S15x16x17 : Shape := ⟨3, ![15, 16, 17]⟩
abbrev S16x1x17 : Shape := ⟨3, ![16, 1, 17]⟩
abbrev S16x16x16 : Shape := ⟨3, ![16, 16, 16]⟩
abbrev S16x16 : Shape := ⟨2, ![16, 16]⟩
abbrev S1x16x16 : Shape := ⟨3, ![1, 16, 16]⟩
abbrev S16x1x16 : Shape := ⟨3, ![16, 1, 16]⟩
abbrev S16x16x15 : Shape := ⟨3, ![16, 16, 15]⟩
abbrev S16x15 : Shape := ⟨2, ![16, 15]⟩
abbrev S1x16x15 : Shape := ⟨3, ![1, 16, 15]⟩
abbrev S16x1x15 : Shape := ⟨3, ![16, 1, 15]⟩
abbrev S16x16x14 : Shape := ⟨3, ![16, 16, 14]⟩
abbrev S16x14 : Shape := ⟨2, ![16, 14]⟩
abbrev S1x16x14 : Shape := ⟨3, ![1, 16, 14]⟩
abbrev S2x16x14 : Shape := ⟨3, ![2, 16, 14]⟩
abbrev S16x1x14 : Shape := ⟨3, ![16, 1, 14]⟩
abbrev S16x16x13 : Shape := ⟨3, ![16, 16, 13]⟩
abbrev S16x13 : Shape := ⟨2, ![16, 13]⟩
abbrev S1x16x13 : Shape := ⟨3, ![1, 16, 13]⟩
abbrev S3x16x13 : Shape := ⟨3, ![3, 16, 13]⟩
abbrev S16x1x13 : Shape := ⟨3, ![16, 1, 13]⟩
abbrev S16x16x12 : Shape := ⟨3, ![16, 16, 12]⟩
abbrev S16x12 : Shape := ⟨2, ![16, 12]⟩
abbrev S1x16x12 : Shape := ⟨3, ![1, 16, 12]⟩
abbrev S4x16x12 : Shape := ⟨3, ![4, 16, 12]⟩
abbrev S16x1x12 : Shape := ⟨3, ![16, 1, 12]⟩
abbrev S16x16x11 : Shape := ⟨3, ![16, 16, 11]⟩
abbrev S16x11 : Shape := ⟨2, ![16, 11]⟩
abbrev S1x16x11 : Shape := ⟨3, ![1, 16, 11]⟩
abbrev S5x16x11 : Shape := ⟨3, ![5, 16, 11]⟩
abbrev S16x1x11 : Shape := ⟨3, ![16, 1, 11]⟩
abbrev S16x16x10 : Shape := ⟨3, ![16, 16, 10]⟩
abbrev S16x10 : Shape := ⟨2, ![16, 10]⟩
abbrev S1x16x10 : Shape := ⟨3, ![1, 16, 10]⟩
abbrev S6x16x10 : Shape := ⟨3, ![6, 16, 10]⟩
abbrev S16x1x10 : Shape := ⟨3, ![16, 1, 10]⟩
abbrev S16x16x9 : Shape := ⟨3, ![16, 16, 9]⟩
abbrev S16x9 : Shape := ⟨2, ![16, 9]⟩
abbrev S1x16x9 : Shape := ⟨3, ![1, 16, 9]⟩
abbrev S7x16x9 : Shape := ⟨3, ![7, 16, 9]⟩
abbrev S16x1x9 : Shape := ⟨3, ![16, 1, 9]⟩
abbrev S16x16x8 : Shape := ⟨3, ![16, 16, 8]⟩
abbrev S16x8 : Shape := ⟨2, ![16, 8]⟩
abbrev S1x16x8 : Shape := ⟨3, ![1, 16, 8]⟩
abbrev S8x16x8 : Shape := ⟨3, ![8, 16, 8]⟩
abbrev S16x1x8 : Shape := ⟨3, ![16, 1, 8]⟩
abbrev S16x16x7 : Shape := ⟨3, ![16, 16, 7]⟩
abbrev S16x7 : Shape := ⟨2, ![16, 7]⟩
abbrev S1x16x7 : Shape := ⟨3, ![1, 16, 7]⟩
abbrev S9x16x7 : Shape := ⟨3, ![9, 16, 7]⟩
abbrev S16x1x7 : Shape := ⟨3, ![16, 1, 7]⟩
abbrev S16x16x6 : Shape := ⟨3, ![16, 16, 6]⟩
abbrev S16x6 : Shape := ⟨2, ![16, 6]⟩
abbrev S1x16x6 : Shape := ⟨3, ![1, 16, 6]⟩
abbrev S10x16x6 : Shape := ⟨3, ![10, 16, 6]⟩
abbrev S16x1x6 : Shape := ⟨3, ![16, 1, 6]⟩
abbrev S16x16x5 : Shape := ⟨3, ![16, 16, 5]⟩
abbrev S16x5 : Shape := ⟨2, ![16, 5]⟩
abbrev S1x16x5 : Shape := ⟨3, ![1, 16, 5]⟩
abbrev S11x16x5 : Shape := ⟨3, ![11, 16, 5]⟩
abbrev S16x1x5 : Shape := ⟨3, ![16, 1, 5]⟩
abbrev S16x16x4 : Shape := ⟨3, ![16, 16, 4]⟩
abbrev S16x4 : Shape := ⟨2, ![16, 4]⟩
abbrev S1x16x4 : Shape := ⟨3, ![1, 16, 4]⟩
abbrev S12x16x4 : Shape := ⟨3, ![12, 16, 4]⟩
abbrev S16x1x4 : Shape := ⟨3, ![16, 1, 4]⟩
abbrev S16x16x3 : Shape := ⟨3, ![16, 16, 3]⟩
abbrev S16x3 : Shape := ⟨2, ![16, 3]⟩
abbrev S1x16x3 : Shape := ⟨3, ![1, 16, 3]⟩
abbrev S13x16x3 : Shape := ⟨3, ![13, 16, 3]⟩
abbrev S16x1x3 : Shape := ⟨3, ![16, 1, 3]⟩
abbrev S16x16x2 : Shape := ⟨3, ![16, 16, 2]⟩
abbrev S16x2 : Shape := ⟨2, ![16, 2]⟩
abbrev S1x16x2 : Shape := ⟨3, ![1, 16, 2]⟩
abbrev S14x16x2 : Shape := ⟨3, ![14, 16, 2]⟩
abbrev S16x1x2 : Shape := ⟨3, ![16, 1, 2]⟩
abbrev S16x16x1 : Shape := ⟨3, ![16, 16, 1]⟩
abbrev S16x1 : Shape := ⟨2, ![16, 1]⟩
abbrev S1x16x1 : Shape := ⟨3, ![1, 16, 1]⟩
abbrev S15x16x1 : Shape := ⟨3, ![15, 16, 1]⟩
abbrev S16x1x1 : Shape := ⟨3, ![16, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S16x128x128x128, .f32⟩
  | .hbm, ⟨1, _⟩ => ⟨S16, .i32⟩
  | .hbm, ⟨2, _⟩ => ⟨S1x16, .i32⟩
  | .hbm, ⟨3, _⟩ => ⟨S16x128, .f32⟩
  | .hbm, ⟨4, _⟩ => ⟨S16x1, .f32⟩
  | .hbm, ⟨5, _⟩ => ⟨S16, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x64x128, .f32⟩
  | .local _ .vmem, ⟨3, _⟩ => ⟨S1x64x64x128, .f32⟩
  | .local _ .vmem, ⟨4, _⟩ => ⟨S1x16, .i32⟩
  | .local _ .vmem, ⟨5, _⟩ => ⟨S16x128, .f32⟩
  | .local _ .vmem, ⟨6, _⟩ => ⟨S16x128x128, .f32⟩
  | .local _ .vmem, ⟨7, _⟩ => ⟨S128x16x128, .f32⟩
  | .local _ .vmem, ⟨8, _⟩ => ⟨S128x16x128, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v72 : Index := Scalar.indexCast arg0
  let c0_15 : Index := 0#32
  let c0_16 : Index := 0#32
  ![v72.toNat, 0, 0]
def k0_off2 (i : grid0.Coords) : Fin 3 → Nat :=
  let arg0 : BitVec 32 := BitVec.ofNat 32 (i 0).val
  let v148 : Index := Scalar.indexCast arg0
  let c0_40 : Index := 0#32
  let c64 : Index := 64#32
  ![v148.toNat, 0, 64]
def k0_cond1 (i : grid0.Coords) : BitVec 1 :=
  let arg0 : BitVec 32 := BitVec.ofNat 32 (i 0).val
  let c15_i32 : BitVec 32 := 15#32
  let v152 : BitVec 1 := Scalar.cmpi .eq arg0 c15_i32
  let v153 : BitVec 32 := Scalar.extui v152
  let c0_i32_41 : BitVec 32 := 0#32
  let v154 : BitVec 1 := Scalar.cmpi .ne v153 c0_i32_41
  v154

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![arg0.toNat, c1_i32.toNat, c1_i32_0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x128x128x128 : Shape := ⟨4, ![16, 128, 128, 128]⟩
abbrev S16 : Shape := ⟨1, ![16]⟩
abbrev S_ : Shape := ⟨0, ![]⟩
abbrev S16x128x128 : Shape := ⟨3, ![16, 128, 128]⟩
abbrev S16x128x128x1 : Shape := ⟨4, ![16, 128, 128, 1]⟩
abbrev S128 : Shape := ⟨1, ![128]⟩
abbrev S128x1x1 : Shape := ⟨3, ![128, 1, 1]⟩
abbrev S1x128x1 : Shape := ⟨3, ![1, 128, 1]⟩
abbrev S1x1x128 : Shape := ⟨3, ![1, 1, 128]⟩
abbrev S128x1 : Shape := ⟨2, ![128, 1]⟩
abbrev S1x128 : Shape := ⟨2, ![1, 128]⟩
abbrev S128x128 : Shape := ⟨2, ![128, 128]⟩
abbrev S16x127x128 : Shape := ⟨3, ![16, 127, 128]⟩
abbrev S16x1x128 : Shape := ⟨3, ![16, 1, 128]⟩
abbrev S16x1x128x128 : Shape := ⟨4, ![16, 1, 128, 128]⟩
abbrev S128x128x1 : Shape := ⟨3, ![128, 128, 1]⟩
abbrev S1x128x128 : Shape := ⟨3, ![1, 128, 128]⟩
abbrev S128x128x128 : Shape := ⟨3, ![128, 128, 128]⟩
abbrev S16x128x1x128 : Shape := ⟨4, ![16, 128, 1, 128]⟩
abbrev S16x1 : Shape := ⟨2, ![16, 1]⟩
abbrev S16x3 : Shape := ⟨2, ![16, 3]⟩

abbrev nBuf : Space → Nat
  | .hbm => 115
  | .vmem => 0
  | .smem => 0
  | _ => 0

abbrev bufTy : (tb : Table) → Fin (tcTables nBuf tb) → BufTy
  | .hbm, ⟨0, _⟩ => ⟨S16x128x128x128, .f32⟩
  | .hbm, ⟨1, _⟩ => ⟨S16, .i32⟩
  | .hbm, ⟨2, _⟩ => ⟨S_, .f32⟩
  | .hbm, ⟨3, _⟩ => ⟨S16x128x128, .f32⟩
  | .hbm, ⟨4, _⟩ => ⟨S16x128x128x1, .f32⟩
  | .hbm, ⟨5, _⟩ => ⟨S16x128x128x128, .f32⟩
  | .hbm, ⟨6, _⟩ => ⟨S16x128x128x128, .f32⟩
  | .hbm, ⟨7, _⟩ => ⟨S16x128x128x128, .f32⟩
  | .hbm, ⟨8, _⟩ => ⟨S_, .f32⟩
  | .hbm, ⟨9, _⟩ => ⟨S16x128x128, .f32⟩
  | .hbm, ⟨10, _⟩ => ⟨S16x128x128, .f32⟩
  | .hbm, ⟨11, _⟩ => ⟨S_, .f32⟩
  | .hbm, ⟨12, _⟩ => ⟨S16x128x128, .f32⟩
  | .hbm, ⟨13, _⟩ => ⟨S16x128x128, .f32⟩
  | .hbm, ⟨14, _⟩ => ⟨S128, .i32⟩
  | .hbm, ⟨15, _⟩ => ⟨S128x1x1, .i32⟩
  | .hbm, ⟨16, _⟩ => ⟨S1x128x1, .i32⟩
  | .hbm, ⟨17, _⟩ => ⟨S1x1x128, .i32⟩
  | .hbm, ⟨18, _⟩ => ⟨S128x1, .i32⟩
  | .hbm, ⟨19, _⟩ => ⟨S1x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .f32⟩
  | .hbm, ⟨24, _⟩ => ⟨S_, .f32⟩
  | .hbm, ⟨25, _⟩ => ⟨S16x128x128, .i1⟩
  | .hbm, ⟨26, _⟩ => ⟨S16x128x128, .f32⟩
  | .hbm, ⟨27, _⟩ => ⟨S16x128x128, .f32⟩
  | .hbm, ⟨28, _⟩ => ⟨S_, .i32⟩
  | .hbm, ⟨29, _⟩ => ⟨S_, .i32⟩
  | .hbm, ⟨30, _⟩ => ⟨S128x1x1, .i32⟩
  | .hbm, ⟨31, _⟩ => ⟨S1x128x1, .i32⟩
  | .hbm, ⟨32, _⟩ => ⟨S1x1x128, .i32⟩
  | .hbm, ⟨33, _⟩ => ⟨S16x128x128, .f32⟩
  | .hbm, ⟨34, _⟩ => ⟨S128, .i32⟩
  | .hbm, ⟨35, _⟩ => ⟨S_, .i32⟩
  | .hbm, ⟨36, _⟩ => ⟨S_, .i32⟩
  | .hbm, ⟨37, _⟩ => ⟨S16x128x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S16x127x128, .f32⟩
  | .hbm, ⟨43, _⟩ => ⟨S16x1x128, .f32⟩
  | .hbm, ⟨44, _⟩ => ⟨S16x128x128, .f32⟩
  | .hbm, ⟨45, _⟩ => ⟨S16x128x128x1, .f32⟩
  | .hbm, ⟨46, _⟩ => ⟨S16x1x128x128, .f32⟩
  | .hbm, ⟨47, _⟩ => ⟨S16x128x128x128, .f32⟩
  | .hbm, ⟨48, _⟩ => ⟨S16x128x128x128, .f32⟩
  | .hbm, ⟨49, _⟩ => ⟨S16x128x128x128, .f32⟩
  | .hbm, ⟨50, _⟩ => ⟨S128x128x1, .i32⟩
  | .hbm, ⟨51, _⟩ => ⟨S128x128x1, .i32⟩
  | .hbm, ⟨52, _⟩ => ⟨S128x128x1, .i1⟩
  | .hbm, ⟨53, _⟩ => ⟨S1x128x128, .i32⟩
  | .hbm, ⟨54, _⟩ => ⟨S1x128x128, .i32⟩
  | .hbm, ⟨55, _⟩ => ⟨S1x128x128, .i1⟩
  | .hbm, ⟨56, _⟩ => ⟨S128x128x128, .i1⟩
  | .hbm, ⟨57, _⟩ => ⟨S128x128x128, .i1⟩
  | .hbm, ⟨58, _⟩ => ⟨S128x128x128, .i1⟩
  | .hbm, ⟨59, _⟩ => ⟨S_, .f32⟩
  | .hbm, ⟨60, _⟩ => ⟨S_, .f32⟩
  | .hbm, ⟨61, _⟩ => ⟨S16x128x128x128, .i1⟩
  | .hbm, ⟨62, _⟩ => ⟨S16x128x128x128, .f32⟩
  | .hbm, ⟨63, _⟩ => ⟨S16x128x128x128, .f32⟩
  | .hbm, ⟨64, _⟩ => ⟨S_, .f32⟩
  | .hbm, ⟨65, _⟩ => ⟨S16x128x128, .f32⟩
  | .hbm, ⟨66, _⟩ => ⟨S16x128x1x128, .f32⟩
  | .hbm, ⟨67, _⟩ => ⟨S16x128x128x128, .f32⟩
  | .hbm, ⟨68, _⟩ => ⟨S16x128x128x128, .f32⟩
  | .hbm, ⟨69, _⟩ => ⟨S16x128x128x128, .f32⟩
  | .hbm, ⟨70, _⟩ => ⟨S_, .f32⟩
  | .hbm, ⟨71, _⟩ => ⟨S16x128x128, .f32⟩
  | .hbm, ⟨72, _⟩ => ⟨S16x128x128, .f32⟩
  | .hbm, ⟨73, _⟩ => ⟨S_, .f32⟩
  | .hbm, ⟨74, _⟩ => ⟨S16x128x128, .f32⟩
  | .hbm, ⟨75, _⟩ => ⟨S16x128x128, .f32⟩
  | .hbm, ⟨76, _⟩ => ⟨S16x128x128, .f32⟩
  | .hbm, ⟨77, _⟩ => ⟨S1x128, .i32⟩
  | .hbm, ⟨78, _⟩ => ⟨S128x1, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S_, .i32⟩
  | .hbm, ⟨83, _⟩ => ⟨S128x128, .i32⟩
  | .hbm, ⟨84, _⟩ => ⟨S128x128, .i1⟩
  | .hbm, ⟨85, _⟩ => ⟨S16x128x128, .i1⟩
  | .hbm, ⟨86, _⟩ => ⟨S16x128x128, .f32⟩
  | .hbm, ⟨87, _⟩ => ⟨S_, .i32⟩
  | .hbm, ⟨88, _⟩ => ⟨S_, .i32⟩
  | .hbm, ⟨89, _⟩ => ⟨S16, .i32⟩
  | .hbm, ⟨90, _⟩ => ⟨S_, .i32⟩
  | .hbm, ⟨91, _⟩ => ⟨S16, .i32⟩
  | .hbm, ⟨92, _⟩ => ⟨S16, .i32⟩
  | .hbm, ⟨93, _⟩ => ⟨S_, .i32⟩
  | .hbm, ⟨94, _⟩ => ⟨S16, .i32⟩
  | .hbm, ⟨95, _⟩ => ⟨S16, .i1⟩
  | .hbm, ⟨96, _⟩ => ⟨S_, .i32⟩
  | .hbm, ⟨97, _⟩ => ⟨S16, .i32⟩
  | .hbm, ⟨98, _⟩ => ⟨S16, .i32⟩
  | .hbm, ⟨99, _⟩ => ⟨S16, .i32⟩
  | .hbm, ⟨100, _⟩ => ⟨S_, .i32⟩
  | .hbm, ⟨101, _⟩ => ⟨S16, .i32⟩
  | .hbm, ⟨102, _⟩ => ⟨S16, .i1⟩
  | .hbm, ⟨103, _⟩ => ⟨S_, .i32⟩
  | .hbm, ⟨104, _⟩ => ⟨S16, .i32⟩
  | .hbm, ⟨105, _⟩ => ⟨S16, .i32⟩
  | .hbm, ⟨106, _⟩ => ⟨S16, .i32⟩
  | .hbm, ⟨107, _⟩ => ⟨S_, .i32⟩
  | .hbm, ⟨108, _⟩ => ⟨S16, .i32⟩
  | .hbm, ⟨109, _⟩ => ⟨S16, .i32⟩
  | .hbm, ⟨110, _⟩ => ⟨S16x1, .i32⟩
  | .hbm, ⟨111, _⟩ => ⟨S16x1, .i32⟩
  | .hbm, ⟨112, _⟩ => ⟨S16x1, .i32⟩
  | .hbm, ⟨113, _⟩ => ⟨S16x3, .i32⟩
  | .hbm, ⟨114, _⟩ => ⟨S16, .f32⟩
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_c : Ref sig .tc := ⟨.hbm, 28, rfl⟩
abbrev main_c_3 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev main_while0c_c_17 : Ref sig .tc := ⟨.hbm, 38, rfl⟩
abbrev main_while0c_v40 : Ref sig .tc := ⟨.hbm, 39, rfl⟩
abbrev main_while0b_c_17 : Ref sig .tc := ⟨.hbm, 40, rfl⟩
abbrev main_while0b_v40 : Ref sig .tc := ⟨.hbm, 41, rfl⟩
abbrev main_while0b_v41 : Ref sig .tc := ⟨.hbm, 42, rfl⟩
abbrev main_while0b_v42 : Ref sig .tc := ⟨.hbm, 43, rfl⟩
abbrev main_while0b_v43 : Ref sig .tc := ⟨.hbm, 44, rfl⟩
abbrev main_while0b_v44 : Ref sig .tc := ⟨.hbm, 45, rfl⟩
abbrev main_while0b_v45 : Ref sig .tc := ⟨.hbm, 46, rfl⟩
abbrev main_while0b_v46 : Ref sig .tc := ⟨.hbm, 47, rfl⟩
abbrev main_while0b_v47 : Ref sig .tc := ⟨.hbm, 48, rfl⟩
abbrev main_while0b_v48 : Ref sig .tc := ⟨.hbm, 49, rfl⟩
abbrev main_while0b_v49 : Ref sig .tc := ⟨.hbm, 50, rfl⟩
abbrev main_while0b_v50 : Ref sig .tc := ⟨.hbm, 51, rfl⟩
abbrev main_while0b_v51 : Ref sig .tc := ⟨.hbm, 52, rfl⟩
abbrev main_while0b_v52 : Ref sig .tc := ⟨.hbm, 53, rfl⟩
abbrev main_while0b_v53 : Ref sig .tc := ⟨.hbm, 54, rfl⟩
abbrev main_while0b_v54 : Ref sig .tc := ⟨.hbm, 55, rfl⟩
abbrev main_while0b_v55 : Ref sig .tc := ⟨.hbm, 56, rfl⟩
abbrev main_while0b_v56 : Ref sig .tc := ⟨.hbm, 57, rfl⟩
abbrev main_while0b_v57 : Ref sig .tc := ⟨.hbm, 58, rfl⟩
abbrev main_while0b_cst_18 : Ref sig .tc := ⟨.hbm, 59, rfl⟩
abbrev main_while0b_call1_v0 : Ref sig .tc := ⟨.hbm, 60, rfl⟩
abbrev main_while0b_call1_v1 : Ref sig .tc := ⟨.hbm, 61, rfl⟩
abbrev main_while0b_call1_v2 : Ref sig .tc := ⟨.hbm, 62, rfl⟩
abbrev main_while0b_v58 : Ref sig .tc := ⟨.hbm, 63, rfl⟩
abbrev main_while0b_cst_19 : Ref sig .tc := ⟨.hbm, 64, rfl⟩
abbrev main_while0b_v59 : Ref sig .tc := ⟨.hbm, 65, rfl⟩
abbrev main_while0b_v60 : Ref sig .tc := ⟨.hbm, 66, rfl⟩
abbrev main_while0b_v61 : Ref sig .tc := ⟨.hbm, 67, rfl⟩
abbrev main_while0b_v62 : Ref sig .tc := ⟨.hbm, 68, rfl⟩
abbrev main_while0b_v63 : Ref sig .tc := ⟨.hbm, 69, rfl⟩
abbrev main_while0b_cst_20 : Ref sig .tc := ⟨.hbm, 70, rfl⟩
abbrev main_while0b_v64 : Ref sig .tc := ⟨.hbm, 71, rfl⟩
abbrev main_while0b_v65 : Ref sig .tc := ⟨.hbm, 72, rfl⟩
abbrev main_while0b_cst_21 : Ref sig .tc := ⟨.hbm, 73, rfl⟩
abbrev main_while0b_v66 : Ref sig .tc := ⟨.hbm, 74, rfl⟩
abbrev main_while0b_v67 : Ref sig .tc := ⟨.hbm, 75, rfl⟩
abbrev main_while0b_v68 : Ref sig .tc := ⟨.hbm, 76, rfl⟩
abbrev main_while0b_v69 : Ref sig .tc := ⟨.hbm, 77, rfl⟩
abbrev main_while0b_v70 : Ref sig .tc := ⟨.hbm, 78, rfl⟩
abbrev main_while0b_v71 : Ref sig .tc := ⟨.hbm, 79, rfl⟩
abbrev main_while0b_v72 : Ref sig .tc := ⟨.hbm, 80, rfl⟩
abbrev main_while0b_v73 : Ref sig .tc := ⟨.hbm, 81, rfl⟩
abbrev main_while0b_v74 : Ref sig .tc := ⟨.hbm, 82, rfl⟩
abbrev main_while0b_v75 : Ref sig .tc := ⟨.hbm, 83, rfl⟩
abbrev main_while0b_v76 : Ref sig .tc := ⟨.hbm, 84, rfl⟩
abbrev main_while0b_call2_v0 : Ref sig .tc := ⟨.hbm, 85, rfl⟩
abbrev main_while0b_v77 : Ref sig .tc := ⟨.hbm, 86, rfl⟩
abbrev main_while0b_c_22 : Ref sig .tc := ⟨.hbm, 87, rfl⟩
abbrev main_while0b_v78 : Ref sig .tc := ⟨.hbm, 88, rfl⟩
abbrev main_v20 : Ref sig .tc := ⟨.hbm, 89, rfl⟩
abbrev main_c_4 : Ref sig .tc := ⟨.hbm, 90, rfl⟩
abbrev main_v21 : Ref sig .tc := ⟨.hbm, 91, rfl⟩
abbrev main_v22 : Ref sig .tc := ⟨.hbm, 92, rfl⟩
abbrev main_c_5 : Ref sig .tc := ⟨.hbm, 93, rfl⟩
abbrev main_v23 : Ref sig .tc := ⟨.hbm, 94, rfl⟩
abbrev main_v24 : Ref sig .tc := ⟨.hbm, 95, rfl⟩
abbrev main_c_6 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_c_7 : Ref sig .tc := ⟨.hbm, 100, rfl⟩
abbrev main_v28 : Ref sig .tc := ⟨.hbm, 101, rfl⟩
abbrev main_v29 : Ref sig .tc := ⟨.hbm, 102, rfl⟩
abbrev main_c_8 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_c_9 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩

abbrev nD : Nat := 1
abbrev τ : Topo := Topo.v7x

variable {F : FTy → Type} [FloatOps F]

abbrev main_while0_count : Scf.Loop 32 := ⟨0#32, 127#32, 1#32⟩
-- ==== Proof.Step.lean ====
/- One width of the chart, as a program over whatever buffers hold it.

   The kernel's last grid point fills a chart width by width.  Every width is the same program with
   other numbers in it: for each group of sixteen splits load the two spans, add them, and merge the
   group into a running maximum and a running sum of exponentials; then take the logarithm, add the
   width's own scores and write the new row into the two charts.  This module states that program
   once, for any width, over any buffers. -/
module

public import Idealize.ShloMosaic.Lib.Pipeline.FrameBody
public import Idealize.ShloMosaic.Lib.Tactic

@[expose] public section

noncomputable section

namespace Chart

open Idealize.ShloMosaic Idealize.ShloMosaic.TcCoe
open Idealize.SL Idealize.SL.Sem

/-- `a` rows of sixteen sentences by `n` positions. -/
abbrev Box (a n : ℕ) : Shape := ⟨3, ![a, 16, n]⟩
/-- Sixteen sentences by `n` positions. -/
abbrev Row (n : ℕ) : Shape := ⟨2, ![16, n]⟩
/-- Sixteen sentences, one width, `n` positions. -/
abbrev Diag (n : ℕ) : Shape := ⟨3, ![16, 1, n]⟩
/-- The sheared scores: sentence, width, position. -/
abbrev Skew : Shape := ⟨3, ![16, 128, 128]⟩

theorem numel_box (a n : ℕ) : (Box a n).numel = a * (16 * n) := by
  simp [Shape.numel, Fin.prod_univ_succ, mul_assoc]

theorem numel_row (n : ℕ) : (Row n).numel = 16 * n := by
  simp [Shape.numel, Fin.prod_univ_succ]

theorem numel_diag (n : ℕ) : (Diag n).numel = 16 * n := by
  simp [Shape.numel, Fin.prod_univ_succ]

theorem box_pos {a n : ℕ} (ha : 0 < a) (hn : 0 < n) : 0 < (Box a n).numel := by
  rw [numel_box]; exact Nat.mul_pos ha (Nat.mul_pos (by omega) hn)

theorem diag_pos {n : ℕ} (hn : 0 < n) : 0 < (Diag n).numel := by
  rw [numel_diag]; exact Nat.mul_pos (by omega) hn

theorem row_box (n : ℕ) : (Row n).ShapeCasts (Box 1 n) := by
  show (Box 1 n).numel = (Row n).numel
  rw [numel_box, numel_row, one_mul]

theorem box_row (n : ℕ) : (Box 1 n).ShapeCasts (Row n) := (row_box n).symm

theorem diag_row (n : ℕ) : (Diag n).ShapeCasts (Row n) := by
  show (Row n).numel = (Diag n).numel
  rw [numel_diag, numel_row]

theorem box_bcast (a n : ℕ) : (Box 1 n).Broadcasts (Box a n) :=
  ⟨le_rfl, fun c => by
    match c with
    | ⟨0, _⟩ => exact .inl rfl
    | ⟨1, _⟩ => exact .inr fun _ => rfl
    | ⟨2, _⟩ => exact .inr fun _ => rfl⟩

theorem box_reduces (a n : ℕ) : (Box a n).Reduces [0] (Row n) :=
  ⟨rfl, Nat.zero_lt_two, fun b => by
    match b with
    | ⟨0, _⟩ => rfl
    | ⟨1, _⟩ => rfl⟩

theorem box_inb {a g o n : ℕ} (h : a + g ≤ 128) (h' : o + n ≤ 128) :
    ∀ c, (![a, 0, o] : Fin 3 → ℕ) c + (Box g n).size c ≤ (Box 128 128).size c := fun c => by
  match c with
  | ⟨0, _⟩ => exact h
  | ⟨1, _⟩ => exact le_rfl
  | ⟨2, _⟩ => exact h'

theorem skew_inb {w n : ℕ} (h : w + 1 ≤ 128) (h' : n ≤ 128) :
    ∀ c, (![0, w, 0] : Fin 3 → ℕ) c + (Diag n).size c ≤ Skew.size c := fun c => by
  match c with
  | ⟨0, _⟩ => exact le_rfl
  | ⟨1, _⟩ => exact h
  | ⟨2, _⟩ => exact (Nat.zero_add n).trans_le h'

variable {F : FTy → Type} [FloatOps F]

/-! ## The values of one group -/

/-- The largest of a group's splits, per sentence and position. -/
def peak {g n : ℕ} (t : FVec F (Box g n) .f32) : FVec F (Row n) .f32 :=
  multiReduction .maximumf [0] (Row n) t 0xFF800000#32 (box_reduces g n) (.inl rfl) rfl

/-- The group's exponentials summed, each taken below the group's largest. -/
def mass {g n : ℕ} (t : FVec F (Box g n) .f32) : FVec F (Row n) .f32 :=
  multiReduction .add [0] (Row n)
    (exp (subf t (broadcastTo (Box g n) (shapeCast (Box 1 n) (peak t) (row_box n)) (box_bcast g n))))
    0x00000000#32 (box_reduces g n) (.inl rfl) rfl

/-- Two running sums merged below the larger of the two maxima. -/
def blend {n : ℕ} (pm ps mc sc : FVec F (Row n) .f32) : FVec F (Row n) .f32 :=
  addf (mulf ps (exp (subf pm (maximumf pm mc)))) (mulf sc (exp (subf mc (maximumf pm mc))))

variable {nD : ℕ} {τ : Topo} {sig : RefSig} {Λ : Labels}

/-- Programs of the core over these buffers. -/
abbrev Pr (nD : ℕ) (τ : Topo) (sig : RefSig) (F : FTy → Type) (Λ : Labels) (α : Type) :=
  Prog (TpuEff nD τ sig (Elt F) Λ .tc) α

/-! ## The program of one width -/

/-- Load `g` rows from row `a` and `n` positions from position `o` of a chart. -/
abbrev ld (M : Memref sig .tc .vmem (Box 128 128) .f32) (a g o n : ℕ) (h : a + g ≤ 128) (h' : o + n ≤ 128)
    (hg : 0 < g) (hn : 0 < n) : Pr nD τ sig F Λ (Vec F (Box g n) .f32) :=
  Prog.lift (.load M (Rect.unit (s := Box 128 128) ![a, 0, o] (Box g n).size (box_inb h h')).toLoadRect
    (View.loadsAt_vmem (box_pos hg hn)))

/-- Store `g` rows at row `a` and `n` positions at position `o` of a chart. -/
abbrev st (M : Memref sig .tc .vmem (Box 128 128) .f32) (a g o n : ℕ) (h : a + g ≤ 128) (h' : o + n ≤ 128)
    (hg : 0 < g) (hn : 0 < n) (v : Vec F (Box g n) .f32) : Pr nD τ sig F Λ PUnit :=
  Prog.lift (.store M (Rect.unit (s := Box 128 128) ![a, 0, o] (Box g n).size (box_inb h h')) v Finset.univ
    (View.stores_vmem_bits_univ (box_pos hg hn) rfl) (.inl rfl))

/-- Load the sheared scores of width `w`, `n` positions. -/
abbrev ldw (M : Memref sig .tc .vmem Skew .f32) (w n : ℕ) (h : w + 1 ≤ 128) (h' : n ≤ 128) (hn : 0 < n) :
    Pr nD τ sig F Λ (Vec F (Diag n) .f32) :=
  Prog.lift (.load M (Rect.unit (s := Skew) ![0, w, 0] (Diag n).size (skew_inb h h')).toLoadRect
    (View.loadsAt_vmem (diag_pos hn)))

/-- The splits `c … c + g − 1` of width `w`: the left spans from one chart, the right spans from the other, added. -/
def splits (A B : Memref sig .tc .vmem (Box 128 128) .f32) (w c g : ℕ) (hw : w < 128) (hc : c + g ≤ w) (hg : 0 < g) :
    Pr nD τ sig F Λ (FVec F (Box g (128 - w)) .f32) := do
  let l ← ld A c g 0 (128 - w) (by omega) (by omega) hg (by omega)
  let r ← ld B (128 - w + c) g w (128 - w) (by omega) (by omega) hg (by omega)
  pure (addf l r)

/-- The groups of width `w` from split `c` on, `q` of them whole and a last one of `r`, merged into the running
    maximum `pm` and sum `ps`; a group of one split is its own maximum and its sum is one. -/
def merge (A B : Memref sig .tc .vmem (Box 128 128) .f32) (w : ℕ) (hw : w < 128) (r : ℕ) :
    (q c : ℕ) → c + 16 * q + r = w → FVec F (Row (128 - w)) .f32 → FVec F (Row (128 - w)) .f32 →
      Pr nD τ sig F Λ (FVec F (Row (128 - w)) .f32)
  | q + 1, c, h, pm, ps => do
      let t ← splits A B w c 16 hw (by omega) (by omega)
      merge A B w hw r q (c + 16) (by omega) (maximumf pm (peak t)) (blend pm ps (peak t) (mass t))
  | 0, c, h, pm, ps =>
      match r, h with
      | 0, _ => pure (addf (log ps) pm)
      | 1, h => do
          let t ← splits A B w c 1 hw (by omega) (by omega)
          let mc : FVec F (Row (128 - w)) .f32 := shapeCast (Row (128 - w)) t (box_row _)
          let sc : FVec F (Row (128 - w)) .f32 := broadcast (Row (128 - w)) (Scalar.ofBits .f32 0x3F800000#32)
          pure (addf (log (blend pm ps mc sc)) (maximumf pm mc))
      | r + 2, h => do
          let t ← splits A B w c (r + 2) hw (by omega) (by omega)
          pure (addf (log (blend pm ps (peak t) (mass t))) (maximumf pm (peak t)))

/-- All splits of width `w = 16 q + r` merged, before the width's own scores are added. -/
def inside (A B : Memref sig .tc .vmem (Box 128 128) .f32) (w : ℕ) (hw : w < 128) :
    (q r : ℕ) → 16 * q + r = w → 0 < w → Pr nD τ sig F Λ (FVec F (Row (128 - w)) .f32)
  | q + 1, r, h, _ => do
      let t ← splits A B w 0 16 hw (by omega) (by omega)
      merge A B w hw r q 16 (by omega) (peak t) (mass t)
  | 0, 0, h, h0 => absurd h (by omega)
  | 0, 1, h, _ => do
      let t ← splits A B w 0 1 hw (by omega) (by omega)
      pure (shapeCast (Row (128 - w)) t (box_row _))
  | 0, r + 2, h, _ => do
      let t ← splits A B w 0 (r + 2) hw (by omega) (by omega)
      pure (addf (log (mass t)) (peak t))

/-- The end of width `w`: its own scores added to the merged splits `v`, and the row written into both charts. -/
def finish (D : Memref sig .tc .vmem Skew .f32) (A B : Memref sig .tc .vmem (Box 128 128) .f32)
    (w : ℕ) (hw : w < 128) (v : FVec F (Row (128 - w)) .f32) : Pr nD τ sig F Λ PUnit := do
  let d ← ldw D w (128 - w) (by omega) (by omega) (by omega)
  let y : FVec F (Row (128 - w)) .f32 := addf v (shapeCast (Row (128 - w)) d (diag_row _))
  let _ ← ld A w 1 0 (128 - w) (by omega) (by omega) (by omega) (by omega)
  st A w 1 0 (128 - w) (by omega) (by omega) (by omega) (by omega) (shapeCast (Box 1 (128 - w)) y (row_box _))
  let _ ← ld B (127 - w) 1 w (128 - w) (by omega) (by omega) (by omega) (by omega)
  st B (127 - w) 1 w (128 - w) (by omega) (by omega) (by omega) (by omega) (shapeCast (Box 1 (128 - w)) y (row_box _))

/-- Width `w`: its splits merged, its own scores added, and the row written into both charts. -/
def width (D : Memref sig .tc .vmem Skew .f32) (A B : Memref sig .tc .vmem (Box 128 128) .f32)
    (w : ℕ) (hw : w < 128) (h0 : 0 < w) : Pr nD τ sig F Λ PUnit := do
  let v ← inside A B w hw (w / 16) (w % 16) (Nat.div_add_mod w 16) h0
  finish D A B w hw v

/-- Both charts filled with a large negative number, and width zero written into them. -/
def start (D : Memref sig .tc .vmem Skew .f32) (A B : Memref sig .tc .vmem (Box 128 128) .f32) : Pr nD τ sig F Λ PUnit := do
  let z : FVec F (Box 128 128) .f32 := broadcast (Box 128 128) (Scalar.ofBits .f32 0xCE6E6B28#32)
  let _ ← ld A 0 128 0 128 (by omega) (by omega) (by omega) (by omega)
  st A 0 128 0 128 (by omega) (by omega) (by omega) (by omega) (shapeCast (Box 128 128) z rfl)
  let _ ← ld B 0 128 0 128 (by omega) (by omega) (by omega) (by omega)
  st B 0 128 0 128 (by omega) (by omega) (by omega) (by omega) (shapeCast (Box 128 128) z rfl)
  let d ← ldw D 0 128 (by omega) (by omega) (by omega)
  let y : FVec F (Row 128) .f32 := shapeCast (Row 128) d (diag_row _)
  let _ ← ld A 0 1 0 128 (by omega) (by omega) (by omega) (by omega)
  st A 0 1 0 128 (by omega) (by omega) (by omega) (by omega) (shapeCast (Box 1 128) y (row_box _))
  let _ ← ld B 127 1 0 128 (by omega) (by omega) (by omega) (by omega)
  st B 127 1 0 128 (by omega) (by omega) (by omega) (by omega) (shapeCast (Box 1 128) y (row_box _))

/-- The `n` widths from `w` on. -/
def widths (D : Memref sig .tc .vmem Skew .f32) (A B : Memref sig .tc .vmem (Box 128 128) .f32) :
    (n w : ℕ) → w + n ≤ 128 → 0 < w → Pr nD τ sig F Λ PUnit
  | 0, _, _, _ => pure ⟨⟩
  | n + 1, w, h, h0 => do
      width D A B w (by omega) h0
      widths D A B n (w + 1) (by omega) (by omega)

/-- Widths in a row may be cut anywhere. -/
theorem widths_add (D : Memref sig .tc .vmem Skew .f32) (A B : Memref sig .tc .vmem (Box 128 128) .f32) (k : ℕ) :
    ∀ (n w : ℕ) (h : w + (n + k) ≤ 128) (h0 : 0 < w),
      (widths D A B (n + k) w h h0 : Pr nD τ sig F Λ PUnit)
        = (do widths D A B n w (by omega) h0; widths D A B k (w + n) (by omega) (by omega))
  | 0, w, h, h0 => by
      have e : ∀ (m : ℕ) (hm : m = k) (hm' : w + m ≤ 128), (widths D A B m w hm' h0 : Pr nD τ sig F Λ PUnit)
          = widths D A B k (w + 0) (by omega) (by omega) := fun m hm hm' => by subst hm; rfl
      exact e (0 + k) (by omega) h
  | n + 1, w, h, h0 => by
      have e : ∀ (m : ℕ) (hm : m = (n + k) + 1) (hm' : w + m ≤ 128), (widths D A B m w hm' h0 : Pr nD τ sig F Λ PUnit)
          = (do width D A B w (by omega) h0; widths D A B (n + k) (w + 1) (by omega) (by omega)) :=
        fun m hm hm' => by subst hm; rfl
      have e' : ∀ (v : ℕ) (hv : v = w + 1 + n) (hv' : v + k ≤ 128) (hv0 : 0 < v), (widths D A B k v hv' hv0 : Pr nD τ sig F Λ PUnit)
          = widths D A B k (w + 1 + n) (by omega) (by omega) := fun v hv hv' hv0 => by subst hv; rfl
      rw [e (n + 1 + k) (by omega) h, widths_add D A B k n (w + 1) (by omega) (by omega), e' (w + (n + 1)) (by omega)]
      exact (Prog.bind_assoc (width D A B w (by omega) h0) (fun _ => widths D A B n (w + 1) (by omega) (by omega))
        (fun _ => widths D A B k (w + 1 + n) (by omega) (by omega))).symm

/-- The kernel's answers per sentence and position: the first chart kept where the width is the sentence's length less one
    and the position is zero, zero elsewhere, summed over the widths. -/
def chosen (l : Vec F ⟨2, ![1, 16]⟩ .i32) (a : Vec F (Box 128 128) .f32) : FVec F (Row 128) .f32 :=
  multiReduction .add [0] (Row 128)
    (select (andi (cmpi .eq (iota .tc (Box 128 128) 32 [0] (by decide))
        (broadcastTo (Box 128 128) (shapeCast ⟨3, ![1, 16, 1]⟩ (subi (shapeCast ⟨1, ![16]⟩ l (by decide))
          (broadcast ⟨1, ![16]⟩ 1#32)) (by decide)) (by decide)))
      (cmpi .eq (iota .tc (Box 128 128) 32 [2] (by decide)) (broadcast (Box 128 128) 0#32)))
      a (broadcast (Box 128 128) (Scalar.ofBits .f32 0x00000000#32)))
    0x00000000#32 (box_reduces 128 128) (.inl rfl) rfl

/-- Load the sentences' lengths and the first chart, and choose the answers. -/
def pick (T : Memref sig .tc .vmem ⟨2, ![1, 16]⟩ .i32) (A : Memref sig .tc .vmem (Box 128 128) .f32) :
    Pr nD τ sig F Λ (FVec F (Row 128) .f32) := do
  let l : Vec F ⟨2, ![1, 16]⟩ .i32 ← Prog.lift (.load T
    (Rect.unit (s := ⟨2, ![1, 16]⟩) ![0, 0] (⟨2, ![1, 16]⟩ : Shape).size (by decide)).toLoadRect (View.loadsAt_vmem (by decide)))
  let a ← ld A 0 128 0 128 (by omega) (by omega) (by omega) (by omega)
  pure (chosen l a)

/-- The whole last part: both charts started, the widths one to one hundred and twenty-seven, the answers chosen. -/
def fill (D : Memref sig .tc .vmem Skew .f32) (A B : Memref sig .tc .vmem (Box 128 128) .f32)
    (T : Memref sig .tc .vmem ⟨2, ![1, 16]⟩ .i32) : Pr nD τ sig F Λ (FVec F (Row 128) .f32) := do
  start D A B
  widths D A B 127 1 (by omega) (by omega)
  pick T A

/-! ## The scores of one sentence, sheared into the scratch -/

/-- Sixty-four starts by `n` ends. -/
abbrev Table (n : ℕ) : Shape := ⟨2, ![64, n]⟩

/-- One turn of the shear: every row whose number has bit `b` set is turned `r` places to the left. -/
def turn (n m r b : ℕ) (x : FVec F (Table n) .f32) (hi : (Table n).Iotas .tc 32 [0]) (hm : (Table n).Slices ![0, r] (Table m))
    (hr : (Table n).Slices ![0, 0] (Table r)) (hc : Shape.Concatenates [Table m, Table r] (Table n) 1) :
    FVec F (Table n) .f32 :=
  select (cmpi .eq (andi (shrsi (iota .tc (Table n) 32 [0] hi) (broadcast (Table n) (BitVec.ofNat 32 b))) (broadcast (Table n) 1#32))
      (broadcast (Table n) 1#32))
    (concatenate (Table n) 1 [⟨Table m, extractStridedSlice (Table m) ![0, r] x hm⟩, ⟨Table r, extractStridedSlice (Table r) ![0, 0] x hr⟩] hc) x

/-- The logarithm of the summed exponentials over the labels. -/
def score (n : ℕ) (e : FVec F ⟨3, ![64, n, 128]⟩ .f32) (h : (⟨3, ![64, n, 128]⟩ : Shape).Reduces [2] (Table n)) : FVec F (Table n) .f32 :=
  log (multiReduction .add [2] (Table n) (exp e) 0x00000000#32 h (.inl rfl) rfl)

/-- Row `i` of a table of one hundred and twenty-eight ends turned `i` places to the left, bit by bit. -/
def shearW (x : FVec F (Table 128) .f32) : FVec F (Table 128) .f32 :=
  turn 128 96 32 5 (turn 128 112 16 4 (turn 128 120 8 3 (turn 128 124 4 2 (turn 128 126 2 1 (turn 128 127 1 0 x
    (by decide) (by decide) (by decide) (by decide)) (by decide) (by decide) (by decide) (by decide))
    (by decide) (by decide) (by decide) (by decide)) (by decide) (by decide) (by decide) (by decide))
    (by decide) (by decide) (by decide) (by decide)) (by decide) (by decide) (by decide) (by decide)

/-- The same for a table of sixty-four ends. -/
def shearH (x : FVec F (Table 64) .f32) : FVec F (Table 64) .f32 :=
  turn 64 32 32 5 (turn 64 48 16 4 (turn 64 56 8 3 (turn 64 60 4 2 (turn 64 62 2 1 (turn 64 63 1 0 x
    (by decide) (by decide) (by decide) (by decide)) (by decide) (by decide) (by decide) (by decide))
    (by decide) (by decide) (by decide) (by decide)) (by decide) (by decide) (by decide) (by decide))
    (by decide) (by decide) (by decide) (by decide)) (by decide) (by decide) (by decide) (by decide)

/-- The band of widths of the first sixty-four starts. -/
def bandW (e : Vec F ⟨4, ![1, 64, 128, 128]⟩ .f32) : FVec F ⟨3, ![1, 128, 64]⟩ .f32 :=
  shapeCast ⟨3, ![1, 128, 64]⟩ (transpose ⟨2, ![128, 64]⟩ [1, 0]
    (shearW (score 128 (shapeCast ⟨3, ![64, 128, 128]⟩ e (by decide)) (by decide))) (by decide)) (by decide)

/-- The band of widths of the last sixty-four starts. -/
def bandH (e : Vec F ⟨4, ![1, 64, 64, 128]⟩ .f32) : FVec F ⟨3, ![1, 64, 64]⟩ .f32 :=
  shapeCast ⟨3, ![1, 64, 64]⟩ (transpose ⟨2, ![64, 64]⟩ [1, 0]
    (shearH (score 64 (shapeCast ⟨3, ![64, 64, 128]⟩ e (by decide)) (by decide))) (by decide)) (by decide)

theorem bandW_pos : 0 < (⟨3, ![1, 128, 64]⟩ : Shape).numel := by decide

theorem bandH_pos : 0 < (⟨3, ![1, 64, 64]⟩ : Shape).numel := by decide

/-- The answers written out. -/
def write (O : Memref sig .tc .vmem (Row 128) .f32) (y : FVec F (Row 128) .f32) : Pr nD τ sig F Λ PUnit := do
  let _ ← Prog.lift (.load O (Rect.unit (s := Row 128) ![0, 0] (Row 128).size (by decide)).toLoadRect (View.loadsAt_vmem (by decide)))
  Prog.lift (.store O (Rect.unit (s := Row 128) ![0, 0] (Row 128).size (by decide)) y Finset.univ
    (View.stores_vmem_bits_univ (by decide) rfl) (.inl rfl))

/-- The kernel's body at one grid point: a sentence's two bands laid into the scratch, and at the last point, when `c` holds,
    the program `R`. -/
def body (E₁ : Memref sig .tc .vmem ⟨4, ![1, 64, 128, 128]⟩ .f32) (E₂ : Memref sig .tc .vmem ⟨4, ![1, 64, 64, 128]⟩ .f32)
    (D : Memref sig .tc .vmem Skew .f32) (o₁ o₂ : Fin 3 → ℕ)
    (h₁ : ∀ a, o₁ a + (⟨3, ![1, 128, 64]⟩ : Shape).size a ≤ Skew.size a) (h₂ : ∀ a, o₂ a + (⟨3, ![1, 64, 64]⟩ : Shape).size a ≤ Skew.size a)
    (c : BitVec 1) (R : Pr nD τ sig F Λ PUnit) : Pr nD τ sig F Λ PUnit := do
  let e₁ : Vec F ⟨4, ![1, 64, 128, 128]⟩ .f32 ← Prog.lift (.load E₁
    (Rect.unit (s := ⟨4, ![1, 64, 128, 128]⟩) ![0, 0, 0, 0] (⟨4, ![1, 64, 128, 128]⟩ : Shape).size (by decide)).toLoadRect (View.loadsAt_vmem (by decide)))
  let _ ← Prog.lift (.load D (Rect.unit (s := Skew) o₁ (⟨3, ![1, 128, 64]⟩ : Shape).size h₁).toLoadRect (View.loadsAt_vmem bandW_pos))
  Prog.lift (.store D (Rect.unit (s := Skew) o₁ (⟨3, ![1, 128, 64]⟩ : Shape).size h₁) (bandW e₁) Finset.univ
    (View.stores_vmem_bits_univ bandW_pos rfl) (.inl rfl))
  let e₂ : Vec F ⟨4, ![1, 64, 64, 128]⟩ .f32 ← Prog.lift (.load E₂
    (Rect.unit (s := ⟨4, ![1, 64, 64, 128]⟩) ![0, 0, 0, 0] (⟨4, ![1, 64, 64, 128]⟩ : Shape).size (by decide)).toLoadRect (View.loadsAt_vmem (by decide)))
  let _ ← Prog.lift (.load D (Rect.unit (s := Skew) o₂ (⟨3, ![1, 64, 64]⟩ : Shape).size h₂).toLoadRect (View.loadsAt_vmem bandH_pos))
  Prog.lift (.store D (Rect.unit (s := Skew) o₂ (⟨3, ![1, 64, 64]⟩ : Shape).size h₂) (bandH e₂) Finset.univ
    (View.stores_vmem_bits_univ bandH_pos rfl) (.inl rfl))
  dite (c = 1#1) (fun _ => R) (fun _ => pure ⟨⟩)

end Chart

end
-- ==== Proof.Runs.lean ====
/- What the program of the chart does to its buffers.

   `Runs` says a program, started with the two charts at given contents, ends with them at given contents and gives a given
   result, the scores' scratch left as it was.  Every such statement is put together from the ones of a load and of a store,
   so what the whole filling of the chart leaves is a plain function of the scores. -/
module

public import proofs.«01_k».proof.Proof.Step
public import Idealize.ShloMosaic.Lib.VecWindow
public import Idealize.ShloMosaic.Lib.Pipeline.Frame

@[expose] public section

noncomputable section

namespace Chart

open Idealize.ShloMosaic Idealize.ShloMosaic.TcCoe
open Idealize.SL Idealize.SL.RA Idealize.SL.BI
open Idealize.SL.BI (sProp)
open scoped Idealize.SL.BI
open Idealize.SL.BI.BIBase Idealize.SL.BI.Laws Idealize.SL.ProofMode Idealize.SL.Sem

variable {F : FTy → Type} [FloatOps F]

/-! ## The pure functions -/

/-- A chart's contents. -/
abbrev Cells (F : FTy → Type) := Vec F (Box 128 128) .f32

/-- The scores of each width, as the scratch holds them. -/
abbrev Scores (F : FTy → Type) := (w : ℕ) → w < 128 → Vec F (Diag (128 - w)) .f32

/-- What a load from a chart reads. -/
abbrev part (x : Cells F) (a g o n : ℕ) (h : a + g ≤ 128) (h' : o + n ≤ 128) : Vec F (Box g n) .f32 :=
  VecWindow.window x ![a, 0, o] (Box g n).size (box_inb h h')

/-- What a store leaves in a chart. -/
abbrev over (x : Cells F) (a g o n : ℕ) (v : Vec F (Box g n) .f32) : Cells F :=
  VecWindow.put x ![a, 0, o] (Box g n).size v

/-- The sums of the splits `c … c + g − 1` of width `w`. -/
def splitsV (a b : Cells F) (w c g : ℕ) (hw : w < 128) (hc : c + g ≤ w) : FVec F (Box g (128 - w)) .f32 :=
  addf (part a c g 0 (128 - w) (by omega) (by omega)) (part b (128 - w + c) g w (128 - w) (by omega) (by omega))

/-- The groups from split `c` on merged into `pm`, `ps`. -/
def mergeV (a b : Cells F) (w : ℕ) (hw : w < 128) (r : ℕ) :
    (q c : ℕ) → c + 16 * q + r = w → FVec F (Row (128 - w)) .f32 → FVec F (Row (128 - w)) .f32 → FVec F (Row (128 - w)) .f32
  | q + 1, c, h, pm, ps =>
      mergeV a b w hw r q (c + 16) (by omega) (maximumf pm (peak (splitsV a b w c 16 hw (by omega))))
        (blend pm ps (peak (splitsV a b w c 16 hw (by omega))) (mass (splitsV a b w c 16 hw (by omega))))
  | 0, c, h, pm, ps =>
      match r, h with
      | 0, _ => addf (log ps) pm
      | 1, h =>
          addf (log (blend pm ps (shapeCast (Row (128 - w)) (splitsV a b w c 1 hw (by omega)) (box_row _))
              (broadcast (Row (128 - w)) (Scalar.ofBits .f32 0x3F800000#32))))
            (maximumf pm (shapeCast (Row (128 - w)) (splitsV a b w c 1 hw (by omega)) (box_row _)))
      | r + 2, h =>
          addf (log (blend pm ps (peak (splitsV a b w c (r + 2) hw (by omega))) (mass (splitsV a b w c (r + 2) hw (by omega)))))
            (maximumf pm (peak (splitsV a b w c (r + 2) hw (by omega))))

/-- All splits of width `w` merged. -/
def insideV (a b : Cells F) (w : ℕ) (hw : w < 128) : (q r : ℕ) → 16 * q + r = w → 0 < w → FVec F (Row (128 - w)) .f32
  | q + 1, r, h, _ =>
      mergeV a b w hw r q 16 (by omega) (peak (splitsV a b w 0 16 hw (by omega))) (mass (splitsV a b w 0 16 hw (by omega)))
  | 0, 0, h, h0 => absurd h (by omega)
  | 0, 1, h, _ => shapeCast (Row (128 - w)) (splitsV a b w 0 1 hw (by omega)) (box_row _)
  | 0, r + 2, h, _ =>
      addf (log (mass (splitsV a b w 0 (r + 2) hw (by omega)))) (peak (splitsV a b w 0 (r + 2) hw (by omega)))

/-- The row of width `w`. -/
def rowV (d : Scores F) (a b : Cells F) (w : ℕ) (hw : w < 128) (h0 : 0 < w) : FVec F (Row (128 - w)) .f32 :=
  addf (insideV a b w hw (w / 16) (w % 16) (Nat.div_add_mod w 16) h0) (shapeCast (Row (128 - w)) (d w hw) (diag_row _))

/-- The row of width zero. -/
def rowZ (d : Scores F) : FVec F (Row 128) .f32 := shapeCast (Row 128) (d 0 (by omega)) (diag_row _)

/-- A row written into the first chart. -/
def overA (a : Cells F) (w : ℕ) (y : FVec F (Row (128 - w)) .f32) : Cells F :=
  over a w 1 0 (128 - w) (shapeCast (Box 1 (128 - w)) y (row_box _))

/-- A row written into the second chart. -/
def overB (b : Cells F) (w : ℕ) (y : FVec F (Row (128 - w)) .f32) : Cells F :=
  over b (127 - w) 1 w (128 - w) (shapeCast (Box 1 (128 - w)) y (row_box _))

/-- Every cell at the large negative number. -/
def blank : Cells F := broadcast (Box 128 128) (Scalar.ofBits .f32 0xCE6E6B28#32)

/-- The two charts after the widths below `k`, the first of them width zero. -/
def charts (d : Scores F) : (k : ℕ) → k ≤ 127 → Cells F × Cells F
  | 0, _ => (overA blank 0 (rowZ d), overB blank 0 (rowZ d))
  | k + 1, h =>
      let p := charts d k (by omega)
      (overA p.1 (k + 1) (rowV d p.1 p.2 (k + 1) (by omega) (by omega)),
        overB p.2 (k + 1) (rowV d p.1 p.2 (k + 1) (by omega) (by omega)))

/-- The answers out of the scores and the lengths. -/
def answers (d : Scores F) (l : Vec F ⟨2, ![1, 16]⟩ .i32) : FVec F (Row 128) .f32 :=
  chosen l (charts d 127 le_rfl).1

/-- The scores of each width in the scratch's contents. -/
def scoresOf (x : Vec F Skew .f32) : Scores F := fun w hw =>
  VecWindow.window x ![0, w, 0] (Diag (128 - w)).size (skew_inb (by omega) (by omega))

/-! ## A load and a store, by the values a buffer holds -/

section Rules

variable {nD : ℕ} {τ : Topo} {sig : RefSig} {Λ : Labels} {defs : Defs nD τ sig (Elt F) Λ} (𝒱 : Variants) (c : Dev nD)
  (bd : Option 𝒱.V) {Γ : PendingWaitsCtx sig Unit} (E : Set ℕ)

local notation "𝕄" => MT nD τ sig Unit (Elt F) ℕ (UR sig nD τ) ℕ
local notation "𝕋" => (wpE' defs 𝒱 (c : Thread nD τ) bd Γ)

variable {s : Shape} {e : EltTy} {α : Type} {Q : α → sProp (MT nD τ sig Unit (Elt F) ℕ (UR sig nD τ) ℕ)}

/-- A load from a buffer held at `x` reads the window of `x`. -/
theorem load_rule {M : Memref sig .tc .vmem s e} {off size : Fin s.rank → ℕ} (inb : ∀ a, off a + size a ≤ s.size a)
    {hl : M.view.LoadsAt (Rect.unit off size inb).toLoadRect}
    {k : ((Rect.unit off size inb).shape.Idx → Elt F e) → Pr nD τ sig F Λ α} (x : Vec F s e) :
    (owns (c : Thread nD τ) M fullShare x : sProp 𝕄)
      ⊢ iprop((owns (c : Thread nD τ) M fullShare x -∗ wp frame 𝕋 E (k (VecWindow.window x off size inb)) Q)
        -∗ wp frame 𝕋 E (.op (.load M (Rect.unit off size inb).toLoadRect hl) k) Q) := by
  unfold owns
  iintro ⟨%f, %hf, H⟩
  subst hf
  iintro Hk
  iapply (wp_load (defs := defs) 𝒱 (c : Thread nD τ) bd E (m := M) (r := (Rect.unit off size inb).toLoadRect) (hl := hl) (k := k)
    (S := M.view.set) (q := fullShare) (f := f) (M.view.setOn_subset_set _)) $$ [H]
  · iexact H
  iintro H
  rw [View.readAt_unit M.view f inb rfl inb]
  iapply Hk
  iexists f
  isplitr; · ipureintro; rfl
  iexact H

/-- A store into a buffer held at `x` leaves `x` with the payload put over the window. -/
theorem store_rule {M : Memref sig .tc .vmem s e} {off size : Fin s.rank → ℕ} (inb : ∀ a, off a + size a ≤ s.size a)
    {w : (Rect.unit off size inb).shape.Idx → Elt F e} {hx : (M.access (Rect.unit off size inb)).Stores Finset.univ}
    {hm : (Finset.univ : Finset (Rect.unit off size inb).shape.Idx) = Finset.univ ∨ ∀ a, (Rect.unit off size inb).stride a = 1}
    {k : PUnit → Pr nD τ sig F Λ α} (x : Vec F s e) :
    (owns (c : Thread nD τ) M fullShare x : sProp 𝕄)
      ⊢ iprop((owns (c : Thread nD τ) M fullShare (VecWindow.put x off size w) -∗ wp frame 𝕋 E (k ⟨⟩) Q)
        -∗ wp frame 𝕋 E (.op (.store M (Rect.unit off size inb) w Finset.univ hx hm) k) Q) := by
  unfold owns
  iintro ⟨%f, %hf, H⟩
  subst hf
  iintro Hk
  iapply (wp_store (defs := defs) 𝒱 (c : Thread nD τ) bd E (m := M) (r := Rect.unit off size inb) (w := w) (Mk := Finset.univ) (hx := hx) (hm := hm) (k := k)
    (S := M.view.set) (f := f) (((M.access (Rect.unit off size inb)).setOn_subset_set _).trans (M.view.set_slice_subset _))) $$ [H]
  · iexact H
  iintro H
  iapply Hk
  iexists _
  isplitr
  swap
  · iexact H
  ipureintro
  exact View.read_writes_cons_put M.view f inb w [] rfl

/-- A load alone. -/
theorem load_alone {M : Memref sig .tc .vmem s e} {off size : Fin s.rank → ℕ} (inb : ∀ a, off a + size a ≤ s.size a)
    (hl : M.view.LoadsAt (Rect.unit off size inb).toLoadRect) (x : Vec F s e)
    (K : ((Rect.unit off size inb).shape.Idx → Elt F e) → sProp 𝕄) :
    iprop(owns (c : Thread nD τ) M fullShare x ∗ (owns (c : Thread nD τ) M fullShare x -∗ K (VecWindow.window x off size inb)))
      ⊢ wp frame 𝕋 E (Prog.lift (.load M (Rect.unit off size inb).toLoadRect hl) : Pr nD τ sig F Λ _) K := by
  iintro ⟨H, HK⟩
  iapply (load_rule (defs := defs) 𝒱 c bd E (M := M) inb (hl := hl) (k := fun v => .ret v) x) $$ [H]
  · iexact H
  iintro H
  rw [wp_ret]
  imodintro
  iapply HK
  iexact H

/-- A store alone. -/
theorem store_alone {M : Memref sig .tc .vmem s e} {off size : Fin s.rank → ℕ} (inb : ∀ a, off a + size a ≤ s.size a)
    (w : (Rect.unit off size inb).shape.Idx → Elt F e) (hx : (M.access (Rect.unit off size inb)).Stores Finset.univ)
    (hm : (Finset.univ : Finset (Rect.unit off size inb).shape.Idx) = Finset.univ ∨ ∀ a, (Rect.unit off size inb).stride a = 1)
    (x : Vec F s e) (K : PUnit → sProp 𝕄) :
    iprop(owns (c : Thread nD τ) M fullShare x ∗ (owns (c : Thread nD τ) M fullShare (VecWindow.put x off size w) -∗ K ⟨⟩))
      ⊢ wp frame 𝕋 E (Prog.lift (.store M (Rect.unit off size inb) w Finset.univ hx hm) : Pr nD τ sig F Λ _) K := by
  iintro ⟨H, HK⟩
  iapply (store_rule (defs := defs) 𝒱 c bd E (M := M) inb (w := w) (hx := hx) (hm := hm) (k := fun v => .ret v) x) $$ [H]
  · iexact H
  iintro H
  rw [wp_ret]
  imodintro
  iapply HK
  iexact H

/-! ## Runs of the chart's programs -/

section Charts

variable (D : Memref sig .tc .vmem Skew .f32) (A B : Memref sig .tc .vmem (Box 128 128) .f32) (x : Vec F Skew .f32)

/-- The scores' scratch at `x` and the two charts at `a` and `b`. -/
def held (a b : Cells F) : sProp 𝕄 :=
  iprop(owns (c : Thread nD τ) D fullShare x ∗ owns (c : Thread nD τ) A fullShare a ∗ owns (c : Thread nD τ) B fullShare b)

/-- The program, started at the charts `a`, `b`, gives `r` and leaves the charts `a'`, `b'`. -/
def Runs {β : Type} (p : Pr nD τ sig F Λ β) (a b : Cells F) (r : β) (a' b' : Cells F) : Prop :=
  ∀ K : β → sProp 𝕄, iprop(held c D A B x a b ∗ (held c D A B x a' b' -∗ K r)) ⊢ wp frame 𝕋 E p K

variable {D A B x} in
/-- A program that only returns. -/
theorem Runs.ret {β : Type} {a b : Cells F} (r : β) :
    Runs (defs := defs) (Γ := Γ) 𝒱 c bd E D A B x (pure r) a b r a b := fun K => by
  rw [wp_pure]
  iintro ⟨H, HK⟩
  imodintro
  iapply HK
  iexact H

variable {D A B x} in
/-- One program after another. -/
theorem Runs.bind {β γ : Type} {p : Pr nD τ sig F Λ β} {k : β → Pr nD τ sig F Λ γ} {a b a₁ b₁ a₂ b₂ : Cells F} {r₁ : β} {r₂ : γ}
    (h₁ : Runs (defs := defs) (Γ := Γ) 𝒱 c bd E D A B x p a b r₁ a₁ b₁)
    (h₂ : Runs (defs := defs) (Γ := Γ) 𝒱 c bd E D A B x (k r₁) a₁ b₁ r₂ a₂ b₂) :
    Runs (defs := defs) (Γ := Γ) 𝒱 c bd E D A B x (p >>= k) a b r₂ a₂ b₂ := fun K => by
  rw [wp_bind]
  iintro ⟨H, HK⟩
  iapply (h₁ _)
  isplitl [H]
  · iexact H
  iintro H
  iapply (h₂ _)
  isplitl [H]
  · iexact H
  iexact HK

variable {D A B x}

/-- A load from the first chart. -/
theorem Runs.ldA {a b : Cells F} (i g o n : ℕ) (h : i + g ≤ 128) (h' : o + n ≤ 128) (hg : 0 < g) (hn : 0 < n) :
    Runs (defs := defs) (Γ := Γ) 𝒱 c bd E D A B x (ld A i g o n h h' hg hn) a b (part a i g o n h h') a b := fun K => by
  unfold held
  iintro ⟨⟨HD, HA, HB⟩, HK⟩
  iapply (load_alone (defs := defs) 𝒱 c bd E (M := A) (off := ![i, 0, o]) (size := (Box g n).size) (box_inb h h') (View.loadsAt_vmem (box_pos hg hn)) a K)
  isplitl [HA]; · iexact HA
  iintro HA
  iapply HK
  isplitl [HD]; · iexact HD
  isplitl [HA]; · iexact HA
  iexact HB

/-- A load from the second chart. -/
theorem Runs.ldB {a b : Cells F} (i g o n : ℕ) (h : i + g ≤ 128) (h' : o + n ≤ 128) (hg : 0 < g) (hn : 0 < n) :
    Runs (defs := defs) (Γ := Γ) 𝒱 c bd E D A B x (ld B i g o n h h' hg hn) a b (part b i g o n h h') a b := fun K => by
  unfold held
  iintro ⟨⟨HD, HA, HB⟩, HK⟩
  iapply (load_alone (defs := defs) 𝒱 c bd E (M := B) (off := ![i, 0, o]) (size := (Box g n).size) (box_inb h h') (View.loadsAt_vmem (box_pos hg hn)) b K)
  isplitl [HB]; · iexact HB
  iintro HB
  iapply HK
  isplitl [HD]; · iexact HD
  isplitl [HA]; · iexact HA
  iexact HB

/-- A load from the scores, as a window. -/
theorem Runs.ldD {a b : Cells F} (w : ℕ) (h : w + 1 ≤ 128) (h' : 128 - w ≤ 128) (hn : 0 < 128 - w) :
    Runs (defs := defs) (Γ := Γ) 𝒱 c bd E D A B x (ldw D w (128 - w) h h' hn) a b
      (VecWindow.window x ![0, w, 0] (Diag (128 - w)).size (skew_inb h h')) a b := fun K => by
  unfold held
  iintro ⟨⟨HD, HA, HB⟩, HK⟩
  iapply (load_alone (defs := defs) 𝒱 c bd E (M := D) (off := ![0, w, 0]) (size := (Diag (128 - w)).size) (skew_inb h h') (View.loadsAt_vmem (diag_pos hn)) x K)
  isplitl [HD]; · iexact HD
  iintro HD
  iapply HK
  isplitl [HD]; · iexact HD
  isplitl [HA]; · iexact HA
  iexact HB

/-- A load from the scores. -/
theorem Runs.ldw {a b : Cells F} (w : ℕ) (hw : w < 128) (h : w + 1 ≤ 128) (h' : 128 - w ≤ 128) (hn : 0 < 128 - w) :
    Runs (defs := defs) (Γ := Γ) 𝒱 c bd E D A B x (ldw D w (128 - w) h h' hn) a b (scoresOf x w hw) a b :=
  Runs.ldD 𝒱 c bd E w h h' hn

/-- A store into the first chart. -/
theorem Runs.stA {a b : Cells F} (i g o n : ℕ) (h : i + g ≤ 128) (h' : o + n ≤ 128) (hg : 0 < g) (hn : 0 < n) (v : Vec F (Box g n) .f32) :
    Runs (defs := defs) (Γ := Γ) 𝒱 c bd E D A B x (st A i g o n h h' hg hn v) a b ⟨⟩ (over a i g o n v) b := fun K => by
  unfold held
  iintro ⟨⟨HD, HA, HB⟩, HK⟩
  iapply (store_alone (defs := defs) 𝒱 c bd E (M := A) (off := ![i, 0, o]) (size := (Box g n).size) (box_inb h h') v (View.stores_vmem_bits_univ (box_pos hg hn) rfl) (.inl rfl) a K)
  isplitl [HA]; · iexact HA
  iintro HA
  iapply HK
  isplitl [HD]; · iexact HD
  isplitl [HA]; · iexact HA
  iexact HB

/-- A store into the second chart. -/
theorem Runs.stB {a b : Cells F} (i g o n : ℕ) (h : i + g ≤ 128) (h' : o + n ≤ 128) (hg : 0 < g) (hn : 0 < n) (v : Vec F (Box g n) .f32) :
    Runs (defs := defs) (Γ := Γ) 𝒱 c bd E D A B x (st B i g o n h h' hg hn v) a b ⟨⟩ a (over b i g o n v) := fun K => by
  unfold held
  iintro ⟨⟨HD, HA, HB⟩, HK⟩
  iapply (store_alone (defs := defs) 𝒱 c bd E (M := B) (off := ![i, 0, o]) (size := (Box g n).size) (box_inb h h') v (View.stores_vmem_bits_univ (box_pos hg hn) rfl) (.inl rfl) b K)
  isplitl [HB]; · iexact HB
  iintro HB
  iapply HK
  isplitl [HD]; · iexact HD
  isplitl [HA]; · iexact HA
  iexact HB

/-- The splits of one group. -/
theorem runs_splits (a b : Cells F) (w k g : ℕ) (hw : w < 128) (hc : k + g ≤ w) (hg : 0 < g) :
    Runs (defs := defs) (Γ := Γ) 𝒱 c bd E D A B x (splits A B w k g hw hc hg) a b (splitsV a b w k g hw hc) a b :=
  (Runs.ldA 𝒱 c bd E _ _ _ _ _ _ _ _).bind 𝒱 c bd E ((Runs.ldB 𝒱 c bd E _ _ _ _ _ _ _ _).bind 𝒱 c bd E (Runs.ret 𝒱 c bd E _))

/-- The groups of one width, merged. -/
theorem runs_merge (a b : Cells F) (w : ℕ) (hw : w < 128) (r : ℕ) :
    ∀ (q k : ℕ) (h : k + 16 * q + r = w) (pm ps : FVec F (Row (128 - w)) .f32),
      Runs (defs := defs) (Γ := Γ) 𝒱 c bd E D A B x (merge A B w hw r q k h pm ps) a b (mergeV a b w hw r q k h pm ps) a b
  | q + 1, k, h, pm, ps =>
      (runs_splits 𝒱 c bd E a b w k 16 hw (by omega) (by omega)).bind 𝒱 c bd E (runs_merge a b w hw r q (k + 16) (by omega) _ _)
  | 0, k, h, pm, ps => by
      match r, h with
      | 0, _ => exact Runs.ret 𝒱 c bd E _
      | 1, h => exact (runs_splits 𝒱 c bd E a b w k 1 hw (by omega) (by omega)).bind 𝒱 c bd E (Runs.ret 𝒱 c bd E _)
      | r + 2, h => exact (runs_splits 𝒱 c bd E a b w k (r + 2) hw (by omega) (by omega)).bind 𝒱 c bd E (Runs.ret 𝒱 c bd E _)

/-- All splits of one width, merged. -/
theorem runs_inside (a b : Cells F) (w : ℕ) (hw : w < 128) :
    ∀ (q r : ℕ) (h : 16 * q + r = w) (h0 : 0 < w),
      Runs (defs := defs) (Γ := Γ) 𝒱 c bd E D A B x (inside A B w hw q r h h0) a b (insideV a b w hw q r h h0) a b
  | q + 1, r, h, h0 =>
      (runs_splits 𝒱 c bd E a b w 0 16 hw (by omega) (by omega)).bind 𝒱 c bd E (runs_merge 𝒱 c bd E a b w hw r q 16 (by omega) _ _)
  | 0, 0, h, h0 => absurd h (by omega)
  | 0, 1, h, h0 => (runs_splits 𝒱 c bd E a b w 0 1 hw (by omega) (by omega)).bind 𝒱 c bd E (Runs.ret 𝒱 c bd E _)
  | 0, r + 2, h, h0 => (runs_splits 𝒱 c bd E a b w 0 (r + 2) hw (by omega) (by omega)).bind 𝒱 c bd E (Runs.ret 𝒱 c bd E _)

/-- One width. -/
theorem runs_width (a b : Cells F) (w : ℕ) (hw : w < 128) (h0 : 0 < w) :
    Runs (defs := defs) (Γ := Γ) 𝒱 c bd E D A B x (width D A B w hw h0) a b ⟨⟩
      (overA a w (rowV (scoresOf x) a b w hw h0)) (overB b w (rowV (scoresOf x) a b w hw h0)) :=
  (runs_inside 𝒱 c bd E a b w hw _ _ _ h0).bind 𝒱 c bd E
    ((Runs.ldw 𝒱 c bd E w hw _ _ _).bind 𝒱 c bd E
      ((Runs.ldA 𝒱 c bd E _ _ _ _ _ _ _ _).bind 𝒱 c bd E
        ((Runs.stA 𝒱 c bd E _ _ _ _ _ _ _ _ _).bind 𝒱 c bd E
          ((Runs.ldB 𝒱 c bd E _ _ _ _ _ _ _ _).bind 𝒱 c bd E (Runs.stB 𝒱 c bd E _ _ _ _ _ _ _ _ _)))))

/-- The widths up to the last. -/
theorem runs_widths : ∀ (n k : ℕ) (h : k + 1 + n ≤ 128) (h0 : 0 < k + 1),
    Runs (defs := defs) (Γ := Γ) 𝒱 c bd E D A B x (widths D A B n (k + 1) h h0)
      (charts (scoresOf x) k (by omega)).1 (charts (scoresOf x) k (by omega)).2 ⟨⟩
      (charts (scoresOf x) (k + n) (by omega)).1 (charts (scoresOf x) (k + n) (by omega)).2
  | 0, k, h, h0 => Runs.ret 𝒱 c bd E _
  | n + 1, k, h, h0 => by
      have e : ∀ (m : ℕ) (hm : m = k + 1 + n) (hm' : m ≤ 127), charts (scoresOf x) m hm' = charts (scoresOf x) (k + 1 + n) (by omega) :=
        fun m hm hm' => by subst hm; rfl
      rw [e (k + (n + 1)) (by omega)]
      exact (runs_width 𝒱 c bd E _ _ (k + 1) (by omega) (by omega)).bind 𝒱 c bd E (runs_widths n (k + 1) (by omega) (by omega))

omit [FloatOps F] in
/-- A store over the whole of a chart leaves only what it stored. -/
theorem over_full (a v : Cells F) : over a 0 128 0 128 v = v := by
  have h := VecWindow.window_put_same a ![0, 0, 0] (Box 128 128).size (box_inb (by omega) (by omega)) v
  have h' : over a 0 128 0 128 v = VecWindow.window (over a 0 128 0 128 v) ![0, 0, 0] (Box 128 128).size (box_inb (by omega) (by omega)) := by
    funext y
    refine congrArg _ (funext fun q => Fin.ext ?_)
    match q with
    | ⟨0, _⟩ => show (y 0).val = 0 + 1 * (y 0).val; omega
    | ⟨1, _⟩ => show (y 1).val = 0 + 1 * (y 1).val; omega
    | ⟨2, _⟩ => show (y 2).val = 0 + 1 * (y 2).val; omega
  exact h'.trans h

omit [FloatOps F] in
/-- A load of the whole of a chart reads all of it. -/
theorem part_full (a : Cells F) : part a 0 128 0 128 (by omega) (by omega) = a := by
  funext y
  refine congrArg a (funext fun q => Fin.ext ?_)
  match q with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The charts blanked and width zero written. -/
theorem runs_start (a b : Cells F) :
    Runs (defs := defs) (Γ := Γ) 𝒱 c bd E D A B x (start D A B) a b ⟨⟩
      (charts (scoresOf x) 0 (by omega)).1 (charts (scoresOf x) 0 (by omega)).2 := by
  have sa : Runs (defs := defs) (Γ := Γ) 𝒱 c bd E D A B x
      (st A 0 128 0 128 (by omega) (by omega) (by omega) (by omega) (shapeCast (Box 128 128) (broadcast (Box 128 128) (Scalar.ofBits .f32 0xCE6E6B28#32) : Cells F) rfl))
      a b ⟨⟩ blank b := by
    have h := Runs.stA (defs := defs) (Γ := Γ) (D := D) (A := A) (B := B) (x := x) (a := a) (b := b) 𝒱 c bd E 0 128 0 128 (by omega) (by omega) (by omega) (by omega)
      (shapeCast (Box 128 128) (broadcast (Box 128 128) (Scalar.ofBits .f32 0xCE6E6B28#32) : Cells F) rfl)
    rwa [over_full] at h
  have sb : Runs (defs := defs) (Γ := Γ) 𝒱 c bd E D A B x
      (st B 0 128 0 128 (by omega) (by omega) (by omega) (by omega) (shapeCast (Box 128 128) (broadcast (Box 128 128) (Scalar.ofBits .f32 0xCE6E6B28#32) : Cells F) rfl))
      blank b ⟨⟩ blank blank := by
    have h := Runs.stB (defs := defs) (Γ := Γ) (D := D) (A := A) (B := B) (x := x) (a := blank) (b := b) 𝒱 c bd E 0 128 0 128 (by omega) (by omega) (by omega) (by omega)
      (shapeCast (Box 128 128) (broadcast (Box 128 128) (Scalar.ofBits .f32 0xCE6E6B28#32) : Cells F) rfl)
    rwa [over_full] at h
  refine (Runs.ldA 𝒱 c bd E _ _ _ _ _ _ _ _).bind 𝒱 c bd E (sa.bind 𝒱 c bd E ?_)
  refine (Runs.ldB 𝒱 c bd E _ _ _ _ _ _ _ _).bind 𝒱 c bd E (sb.bind 𝒱 c bd E ?_)
  exact (Runs.ldw 𝒱 c bd E 0 (by omega) _ _ _).bind 𝒱 c bd E
      ((Runs.ldA 𝒱 c bd E _ _ _ _ _ _ _ _).bind 𝒱 c bd E
        ((Runs.stA 𝒱 c bd E _ _ _ _ _ _ _ _ _).bind 𝒱 c bd E
          ((Runs.ldB 𝒱 c bd E _ _ _ _ _ _ _ _).bind 𝒱 c bd E (Runs.stB 𝒱 c bd E _ _ _ _ _ _ _ _ _))))

end Charts

/-- The whole filling: from any charts, with the lengths at `l`, the answers. -/
theorem fill_rule {D : Memref sig .tc .vmem Skew .f32} {A B : Memref sig .tc .vmem (Box 128 128) .f32}
    {T : Memref sig .tc .vmem ⟨2, ![1, 16]⟩ .i32} (x : Vec F Skew .f32) (a b : Cells F) (l : Vec F ⟨2, ![1, 16]⟩ .i32)
    (K : FVec F (Row 128) .f32 → sProp 𝕄) :
    iprop(held c D A B x a b ∗ owns (c : Thread nD τ) T fullShare l
        ∗ (held c D A B x (charts (scoresOf x) 127 le_rfl).1 (charts (scoresOf x) 127 le_rfl).2
            -∗ owns (c : Thread nD τ) T fullShare l -∗ K (answers (scoresOf x) l)))
      ⊢ wp frame 𝕋 E (fill D A B T) K := by
  have hK : answers (scoresOf x) l = chosen l (charts (scoresOf x) (0 + 127) (by omega)).1 := rfl
  rw [hK]
  unfold fill
  rw [wp_bind]
  iintro ⟨H, HT, HK⟩
  iapply (runs_start 𝒱 c bd E a b _)
  isplitl [H]
  · iexact H
  iintro H
  rw [wp_bind]
  iapply (runs_widths 𝒱 c bd E 127 0 _ _ _)
  isplitl [H]
  · iexact H
  iintro H
  unfold pick
  have hl : VecWindow.window l ![0, 0] (⟨2, ![1, 16]⟩ : Shape).size (by decide) = l := by
    funext y
    refine congrArg l (funext fun q => Fin.ext ?_)
    match q with
    | ⟨0, _⟩ => show 0 + 1 * (y 0).val = (y 0).val; omega
    | ⟨1, _⟩ => show 0 + 1 * (y 1).val = (y 1).val; omega
  rw [wp_bind]
  iapply (load_alone (defs := defs) 𝒱 c bd E (M := T) (off := ![0, 0]) (size := (⟨2, ![1, 16]⟩ : Shape).size) _ _ l _)
  isplitl [HT]; · iexact HT
  iintro HT
  rw [hl, wp_bind]
  iapply (Runs.ldA 𝒱 c bd E 0 128 0 128 _ _ _ _ _)
  isplitl [H]
  · iexact H
  iintro H
  rw [part_full, wp_pure]
  imodintro
  ispecialize HK $$ H HT
  iexact HK

/-- A load of the whole of a buffer reads all of it. -/
theorem window_full {α : Type} {s : Shape} (x : s.Idx → α) (off : Fin s.rank → ℕ) (inb : ∀ a, off a + s.size a ≤ s.size a) :
    VecWindow.window x off s.size inb = x := by
  funext y
  exact congrArg x (Rect.emb_unit_full inb y)

/-- A store over the whole of a buffer leaves what it stored. -/
theorem put_full {α : Type} {s : Shape} (x w : s.Idx → α) (off : Fin s.rank → ℕ) (inb : ∀ a, off a + s.size a ≤ s.size a) :
    VecWindow.put x off s.size w = w :=
  (window_full _ off inb).symm.trans (VecWindow.window_put_same x off s.size inb w)

/-- The scratch after one grid point: the sentence's two bands laid into it. -/
def laid (o₁ o₂ : Fin 3 → ℕ) (e₁ : Vec F ⟨4, ![1, 64, 128, 128]⟩ .f32) (e₂ : Vec F ⟨4, ![1, 64, 64, 128]⟩ .f32) (x : Vec F Skew .f32) :
    Vec F Skew .f32 :=
  VecWindow.put (VecWindow.put x o₁ (⟨3, ![1, 128, 64]⟩ : Shape).size (bandW e₁)) o₂ (⟨3, ![1, 64, 64]⟩ : Shape).size (bandH e₂)

/-- The answers written over the output block. -/
theorem write_rule {O : Memref sig .tc .vmem (Row 128) .f32} (o y : Vec F (Row 128) .f32) (K : PUnit → sProp 𝕄) :
    iprop(owns (c : Thread nD τ) O fullShare o ∗ (owns (c : Thread nD τ) O fullShare y -∗ K ⟨⟩))
      ⊢ wp frame 𝕋 E (write O y) K := by
  unfold write
  rw [wp_bind]
  iintro ⟨H, HK⟩
  iapply (load_alone (defs := defs) 𝒱 c bd E (M := O) (off := ![0, 0]) (size := (Row 128).size) _ _ o _)
  isplitl [H]; · iexact H
  iintro H
  iapply (store_alone (defs := defs) 𝒱 c bd E (M := O) (off := ![0, 0]) (size := (Row 128).size) _ y _ _ o _)
  isplitl [H]; · iexact H
  rw [put_full o y ![0, 0] (by decide)]
  iexact HK

/-- The body at one grid point: the two bands laid into the scratch, and the answers written at the last point only. -/
theorem body_rule {E₁ : Memref sig .tc .vmem ⟨4, ![1, 64, 128, 128]⟩ .f32} {E₂ : Memref sig .tc .vmem ⟨4, ![1, 64, 64, 128]⟩ .f32}
    {T : Memref sig .tc .vmem ⟨2, ![1, 16]⟩ .i32} {O : Memref sig .tc .vmem (Row 128) .f32} {D : Memref sig .tc .vmem Skew .f32}
    {A B : Memref sig .tc .vmem (Box 128 128) .f32} (o₁ o₂ : Fin 3 → ℕ)
    (h₁ : ∀ a, o₁ a + (⟨3, ![1, 128, 64]⟩ : Shape).size a ≤ Skew.size a) (h₂ : ∀ a, o₂ a + (⟨3, ![1, 64, 64]⟩ : Shape).size a ≤ Skew.size a)
    (v : BitVec 1) (e₁ : Vec F ⟨4, ![1, 64, 128, 128]⟩ .f32) (e₂ : Vec F ⟨4, ![1, 64, 64, 128]⟩ .f32)
    (l : Vec F ⟨2, ![1, 16]⟩ .i32) (o : Vec F (Row 128) .f32) (x : Vec F Skew .f32) (K : PUnit → sProp 𝕄) :
    iprop(owns (c : Thread nD τ) E₁ fullShare e₁ ∗ owns (c : Thread nD τ) E₂ fullShare e₂ ∗ owns (c : Thread nD τ) T fullShare l
        ∗ owns (c : Thread nD τ) O fullShare o ∗ owns (c : Thread nD τ) D fullShare x
        ∗ (∃ d, owns (c : Thread nD τ) A fullShare d) ∗ (∃ d, owns (c : Thread nD τ) B fullShare d)
        ∗ (iprop(owns (c : Thread nD τ) E₁ fullShare e₁ ∗ owns (c : Thread nD τ) E₂ fullShare e₂ ∗ owns (c : Thread nD τ) T fullShare l
            ∗ owns (c : Thread nD τ) O fullShare (if v = 1#1 then answers (scoresOf (laid o₁ o₂ e₁ e₂ x)) l else o)
            ∗ owns (c : Thread nD τ) D fullShare (laid o₁ o₂ e₁ e₂ x)
            ∗ (∃ d, owns (c : Thread nD τ) A fullShare d) ∗ (∃ d, owns (c : Thread nD τ) B fullShare d)) -∗ K ⟨⟩))
      ⊢ wp frame 𝕋 E (body E₁ E₂ D o₁ o₂ h₁ h₂ v (do let y ← fill D A B T; write O y)) K := by
  unfold body
  iintro ⟨H1, H2, HT, HO, HD, ⟨%a, HA⟩, ⟨%b, HB⟩, HK⟩
  rw [wp_bind]
  iapply (load_alone (defs := defs) 𝒱 c bd E (M := E₁) (off := ![0, 0, 0, 0]) (size := (⟨4, ![1, 64, 128, 128]⟩ : Shape).size) _ _ e₁ _)
  isplitl [H1]; · iexact H1
  iintro H1
  rw [window_full e₁ ![0, 0, 0, 0] (by decide), wp_bind]
  iapply (load_alone (defs := defs) 𝒱 c bd E (M := D) (off := o₁) (size := (⟨3, ![1, 128, 64]⟩ : Shape).size) h₁ _ x _)
  isplitl [HD]; · iexact HD
  iintro HD
  rw [wp_bind]
  iapply (store_alone (defs := defs) 𝒱 c bd E (M := D) (off := o₁) (size := (⟨3, ![1, 128, 64]⟩ : Shape).size) h₁ (bandW e₁) _ _ x _)
  isplitl [HD]; · iexact HD
  iintro HD
  rw [wp_bind]
  iapply (load_alone (defs := defs) 𝒱 c bd E (M := E₂) (off := ![0, 0, 0, 0]) (size := (⟨4, ![1, 64, 64, 128]⟩ : Shape).size) _ _ e₂ _)
  isplitl [H2]; · iexact H2
  iintro H2
  rw [window_full e₂ ![0, 0, 0, 0] (by decide), wp_bind]
  iapply (load_alone (defs := defs) 𝒱 c bd E (M := D) (off := o₂) (size := (⟨3, ![1, 64, 64]⟩ : Shape).size) h₂ _ _ _)
  isplitl [HD]; · iexact HD
  iintro HD
  rw [wp_bind]
  iapply (store_alone (defs := defs) 𝒱 c bd E (M := D) (off := o₂) (size := (⟨3, ![1, 64, 64]⟩ : Shape).size) h₂ (bandH e₂) _ _ _ _)
  isplitl [HD]; · iexact HD
  iintro HD
  rw [show VecWindow.put (VecWindow.put x o₁ (⟨3, ![1, 128, 64]⟩ : Shape).size (bandW e₁)) o₂ (⟨3, ![1, 64, 64]⟩ : Shape).size (bandH e₂)
    = laid o₁ o₂ e₁ e₂ x from rfl]
  by_cases hv : v = 1#1
  · rw [if_pos hv, dif_pos hv, wp_bind]
    iapply (fill_rule (defs := defs) 𝒱 c bd E (laid o₁ o₂ e₁ e₂ x) a b l _)
    unfold held
    isplitl [HD HA HB]
    · isplitl [HD]; · iexact HD
      isplitl [HA]; · iexact HA
      iexact HB
    isplitl [HT]; · iexact HT
    iintro ⟨HD, HA, HB⟩ HT
    iapply (write_rule (defs := defs) 𝒱 c bd E o _ K)
    isplitl [HO]; · iexact HO
    iintro HO
    iapply HK
    isplitl [H1]; · iexact H1
    isplitl [H2]; · iexact H2
    isplitl [HT]; · iexact HT
    isplitl [HO]; · iexact HO
    isplitl [HD]; · iexact HD
    isplitl [HA]; · iexists _; iexact HA
    iexists _; iexact HB
  · rw [if_neg hv, dif_neg hv, wp_pure]
    imodintro
    iapply HK
    isplitl [H1]; · iexact H1
    isplitl [H2]; · iexact H2
    isplitl [HT]; · iexact HT
    isplitl [HO]; · iexact HO
    isplitl [HD]; · iexact HD
    isplitl [HA]; · iexists _; iexact HA
    iexists _; iexact HB

end Rules

end Chart

end
-- ==== Proof.Lay.lean ====
/- The scratch as the grid fills it, sentence by sentence.

   After the points before `n` the scratch holds, of every sentence below `n`, the scores of its spans; what it holds at a
   width and a start that name no span is left unsaid, since nothing reads it. -/
module

public import proofs.«01_k».proof.Proof.Runs
public import Idealize.ShloMosaic.Lib.Pointwise.Index

@[expose] public section

noncomputable section

namespace Chart

open Idealize.ShloMosaic

variable {F : FTy → Type} [FloatOps F]

/-- The first band's block of each sentence. -/
abbrev Tops (F : FTy → Type) := Fin 16 → Vec F ⟨4, ![1, 64, 128, 128]⟩ .f32

/-- The second band's block of each sentence. -/
abbrev Bottoms (F : FTy → Type) := Fin 16 → Vec F ⟨4, ![1, 64, 64, 128]⟩ .f32

/-- The score of the span of width `w` from start `i`, out of a sentence's two blocks. -/
def cell (e₁ : Vec F ⟨4, ![1, 64, 128, 128]⟩ .f32) (e₂ : Vec F ⟨4, ![1, 64, 64, 128]⟩ .f32) (w i : Fin 128) (h : w.val + i.val < 128) :
    F .f32 :=
  if hi : i.val < 64 then bandW e₁ (ix3 0 w ⟨i.val, hi⟩) else bandH e₂ (ix3 0 ⟨w.val, by omega⟩ ⟨i.val - 64, by omega⟩)

/-- The scores of every sentence below `n` are in the scratch. -/
def Filled (E₁ : Tops F) (E₂ : Bottoms F) (n : ℕ) (x : Vec F Skew .f32) : Prop :=
  ∀ (b : Fin 16) (w i : Fin 128) (h : w.val + i.val < 128), b.val < n → x (ix3 b w i) = cell (E₁ b) (E₂ b) w i h

/-- At first nothing is said. -/
theorem Filled.zero (E₁ : Tops F) (E₂ : Bottoms F) (x : Vec F Skew .f32) : Filled E₁ E₂ 0 x :=
  fun _ _ _ _ hb => absurd hb (Nat.not_lt_zero _)

/-- One more sentence. -/
theorem Filled.next {E₁ : Tops F} {E₂ : Bottoms F} {n : Fin 16} {x : Vec F Skew .f32} (hx : Filled E₁ E₂ n.val x)
    (o₁ o₂ : Fin 3 → ℕ) (h₁ : o₁ = ![n.val, 0, 0]) (h₂ : o₂ = ![n.val, 0, 64]) :
    Filled E₁ E₂ (n.val + 1) (laid o₁ o₂ (E₁ n) (E₂ n) x) := fun b w i h hb => by
  subst h₁ h₂
  unfold laid VecWindow.put
  by_cases hn : b = n
  · subst hn
    by_cases hi : i.val < 64
    · rw [dif_neg (fun k => absurd (k 2).1 (by show ¬64 ≤ i.val; omega)),
        dif_pos (fun a => by
          match a with
          | ⟨0, _⟩ => exact ⟨le_rfl, Nat.lt_succ_self _⟩
          | ⟨1, _⟩ => exact ⟨Nat.zero_le _, by show w.val < 0 + 128; omega⟩
          | ⟨2, _⟩ => exact ⟨Nat.zero_le _, by show i.val < 0 + 64; omega⟩)]
      unfold cell
      rw [dif_pos hi]
      exact congrArg (bandW (E₁ b)) (funext fun a => Fin.ext (by
        match a with
        | ⟨0, _⟩ => exact Nat.sub_self _
        | ⟨1, _⟩ => exact Nat.sub_zero _
        | ⟨2, _⟩ => exact Nat.sub_zero _))
    · rw [dif_pos (fun a => by
          match a with
          | ⟨0, _⟩ => exact ⟨le_rfl, Nat.lt_succ_self _⟩
          | ⟨1, _⟩ => exact ⟨Nat.zero_le _, by show w.val < 0 + 64; omega⟩
          | ⟨2, _⟩ => exact ⟨by show 64 ≤ i.val; omega, by show i.val < 64 + 64; omega⟩)]
      unfold cell
      rw [dif_neg hi]
      exact congrArg (bandH (E₂ b)) (funext fun a => Fin.ext (by
        match a with
        | ⟨0, _⟩ => exact Nat.sub_self _
        | ⟨1, _⟩ => exact Nat.sub_zero _
        | ⟨2, _⟩ => rfl))
  · have hv : b.val ≠ n.val := fun e => hn (Fin.ext e)
    have away : ∀ z s : ℕ, ¬(n.val ≤ b.val ∧ b.val < n.val + 1) := fun _ _ => by omega
    rw [dif_neg (fun k => away 0 0 (k 0)), dif_neg (fun k => away 0 0 (k 0))]
    exact hx b w i h (by omega)

/-- The scores of each width, out of all the blocks. -/
def scores (E₁ : Tops F) (E₂ : Bottoms F) : Scores F := fun w hw y =>
  cell (E₁ (y 0)) (E₂ (y 0)) ⟨w, hw⟩ ⟨(y 2).val, (y 2).isLt.trans_le (Nat.sub_le _ _)⟩
    (by have h : (y 2).val < 128 - w := (y 2).isLt; show w + (y 2).val < 128; omega)

/-- The full scratch holds these scores. -/
theorem Filled.scores {E₁ : Tops F} {E₂ : Bottoms F} {x : Vec F Skew .f32} (hx : Filled E₁ E₂ 16 x) : scoresOf x = scores E₁ E₂ := by
  funext w hw y
  have h2 : (y 2).val < 128 - w := (y 2).isLt
  refine (congrArg x ?_).trans (hx (y 0) ⟨w, hw⟩ ⟨(y 2).val, h2.trans_le (Nat.sub_le _ _)⟩ (by show w + (y 2).val < 128; omega) (y 0).isLt)
  funext a
  refine Fin.ext ?_
  match a with
  | ⟨0, _⟩ => show 0 + 1 * (y 0).val = (y 0).val; omega
  | ⟨1, _⟩ => show w + 1 * (y 1).val = w; have : (y 1).val < 1 := (y 1).isLt; omega
  | ⟨2, _⟩ => show 0 + 1 * (y 2).val = (y 2).val; omega

end Chart

end
-- ==== Proof.RegionI.lean ====
/- The kernel's body is the generic program.

   The printed body runs through cut pieces of its text.  Here the pieces, one after the other, are shown to be the
   generic program of a width run for the widths one to one hundred and twenty-seven.  The four cuts fall inside a
   width, so each lemma takes what is left of the width the cut fell in and gives it back at the next cut. -/
module

public import proofs.«01_k».proof.KernelIdeal
public import proofs.«01_k».proof.Proof.Step

@[expose] public section

set_option maxRecDepth 100000
set_option maxHeartbeats 0

noncomputable section

namespace Cert.KernelIdeal.Gen

open Idealize.ShloMosaic Idealize.ShloMosaic.TcCoe
open Idealize.SL Idealize.SL.Sem

variable {F : FTy → Type} [FloatOps F] [Facts]

section

variable (i : grid0.Coords) (arg1 : Memref sig .tc .vmem S1x64x128x128 .f32) (harg1 : arg1.IsWhole) (arg2 : Memref sig .tc .vmem S1x64x64x128 .f32) (harg2 : arg2.IsWhole) (arg3 : Memref sig .tc .vmem S1x16 .i32) (harg3 : arg3.IsWhole) (arg4 : Memref sig .tc .vmem S16x128 .f32) (harg4 : arg4.IsWhole) (arg5 : Memref sig .tc .vmem S16x128x128 .f32) (harg5 : arg5.IsWhole) (arg6 : Memref sig .tc .vmem S128x16x128 .f32) (harg6 : arg6.IsWhole) (arg7 : Memref sig .tc .vmem S128x16x128 .f32) (harg7 : arg7.IsWhole)

/-- What is left of width fifty-three after the first cut. -/
def rest53 (v2236 v2240 v2245 v2246 v2247 : FVec F S16x75 .f32) : Prog (TpuEff nD τ sig (Elt F) Λ₀ .tc) PUnit := do
  let v ← Chart.merge arg6 arg7 53 (by omega) 5 0 48 (by omega) v2246
    (addf (mulf v2236 (exp v2247)) (mulf v2245 (exp (subf v2240 v2246))))
  Chart.finish arg5 arg6 arg7 53 (by omega) v

/-- What is left of width eighty-one after the second cut. -/
def rest81 (v4502 v4509 : FVec F S16x47 .f32) (v4510 : Vec F S16x16x47 .f32) : Prog (TpuEff nD τ sig (Elt F) Λ₀ .tc) PUnit := do
  let r ← Chart.ld arg7 95 16 81 47 (by omega) (by omega) (by omega) (by omega)
  let t : FVec F (Chart.Box 16 47) .f32 := addf v4510 r
  let v ← Chart.merge arg6 arg7 81 (by omega) 1 1 64 (by omega) (maximumf v4502 (Chart.peak t))
    (Chart.blend v4502 v4509 (Chart.peak t) (Chart.mass t))
  Chart.finish arg5 arg6 arg7 81 (by omega) v

/-- What is left of width one hundred and two after the third cut. -/
def rest102 (v6817 v6818 v6821 v6823 : FVec F S16x26 .f32) : Prog (TpuEff nD τ sig (Elt F) Λ₀ .tc) PUnit := do
  let v ← Chart.merge arg6 arg7 102 (by omega) 6 1 80 (by omega) v6818 (addf v6821 (mulf v6817 v6823))
  Chart.finish arg5 arg6 arg7 102 (by omega) v

/-- What is left of width one hundred and twenty after the last cut. -/
def rest120 (v9146 v9153 : FVec F S16x8 .f32) : Prog (TpuEff nD τ sig (Elt F) Λ₀ .tc) PUnit := do
  let v ← Chart.merge arg6 arg7 120 (by omega) 8 1 96 (by omega) v9146 v9153
  Chart.finish arg5 arg6 arg7 120 (by omega) v

/-- The last piece: the rest of width one hundred and twenty, the last seven widths, the answers. -/
theorem piece271 (v9146 v9153 : FVec F S16x8 .f32) :
    k0_part271 (F := F) i arg1 harg1 arg2 harg2 arg3 harg3 arg4 harg4 arg5 harg5 arg6 harg6 arg7 harg7 v9146 v9153
      = (do rest120 arg5 arg6 arg7 v9146 v9153
            Chart.widths arg5 arg6 arg7 7 121 (by omega) (by omega)
            Chart.pick arg3 arg6) := rfl

/-- The piece before it. -/
theorem piece270 (v6817 v6818 v6821 v6823 : FVec F S16x26 .f32) :
    (k0_part270 (F := F) i arg1 harg1 arg2 harg2 arg3 harg3 arg4 harg4 arg5 harg5 arg6 harg6 arg7 harg7 v6817 v6818 v6821 v6823
      >>= fun p => rest120 arg5 arg6 arg7 p.1 p.2)
      = (do rest102 arg5 arg6 arg7 v6817 v6818 v6821 v6823
            Chart.widths arg5 arg6 arg7 18 103 (by omega) (by omega)) := rfl

/-- The middle piece. -/
theorem piece269 (v4502 v4509 : FVec F S16x47 .f32) (v4510 : Vec F S16x16x47 .f32) :
    (k0_part269 (F := F) i arg1 harg1 arg2 harg2 arg3 harg3 arg4 harg4 arg5 harg5 arg6 harg6 arg7 harg7 v4502 v4509 v4510
      >>= fun p => rest102 arg5 arg6 arg7 p.1 p.2.1 p.2.2.1 p.2.2.2)
      = (do rest81 arg5 arg6 arg7 v4502 v4509 v4510
            Chart.widths arg5 arg6 arg7 21 82 (by omega) (by omega)) := rfl

/-- The second piece. -/
theorem piece268 (v2236 v2240 v2245 v2246 v2247 : FVec F S16x75 .f32) :
    (k0_part268 (F := F) i arg1 harg1 arg2 harg2 arg3 harg3 arg4 harg4 arg5 harg5 arg6 harg6 arg7 harg7 v2236 v2240 v2245 v2246 v2247
      >>= fun p => rest81 arg5 arg6 arg7 p.1 p.2.1 p.2.2)
      = (do rest53 arg5 arg6 arg7 v2236 v2240 v2245 v2246 v2247
            Chart.widths arg5 arg6 arg7 28 54 (by omega) (by omega)) := rfl

/-- The first piece. -/
theorem piece267 :
    (k0_part267 (F := F) i arg1 harg1 arg2 harg2 arg3 harg3 arg4 harg4 arg5 harg5 arg6 harg6 arg7 harg7
      >>= fun p => rest53 arg5 arg6 arg7 p.1 p.2.1 p.2.2.1 p.2.2.2.1 p.2.2.2.2)
      = (do Chart.start arg5 arg6 arg7
            Chart.widths arg5 arg6 arg7 53 1 (by omega) (by omega)) := rfl

/-- i arg1 harg1 arg2 harg2 arg3 harg3 arg4 harg4 arg5 harg5 arg6 harg6 arg7 harg7 step that takes up where a piece left off. -/
theorem follow {α β : Type} {P : Prog (TpuEff nD τ sig (Elt F) Λ₀ .tc) α} {f : α → Prog (TpuEff nD τ sig (Elt F) Λ₀ .tc) PUnit}
    {Q : Prog (TpuEff nD τ sig (Elt F) Λ₀ .tc) PUnit} (h : (P >>= f) = Q) (K : Prog (TpuEff nD τ sig (Elt F) Λ₀ .tc) β) :
    (P >>= fun p => f p >>= fun _ => K) = (Q >>= fun _ => K) :=
  (Prog.bind_assoc P f (fun _ => K)).symm.trans (congrArg (· >>= fun _ => K) h)

/-- The five pieces are the whole filling of the chart, the choosing of the answers and their writing. -/
theorem filling :
    (k0_part267 (F := F) i arg1 harg1 arg2 harg2 arg3 harg3 arg4 harg4 arg5 harg5 arg6 harg6 arg7 harg7 >>= fun p =>
      k0_part268 i arg1 harg1 arg2 harg2 arg3 harg3 arg4 harg4 arg5 harg5 arg6 harg6 arg7 harg7 p.1 p.2.1 p.2.2.1 p.2.2.2.1 p.2.2.2.2 >>= fun p =>
      k0_part269 i arg1 harg1 arg2 harg2 arg3 harg3 arg4 harg4 arg5 harg5 arg6 harg6 arg7 harg7 p.1 p.2.1 p.2.2 >>= fun p =>
      k0_part270 i arg1 harg1 arg2 harg2 arg3 harg3 arg4 harg4 arg5 harg5 arg6 harg6 arg7 harg7 p.1 p.2.1 p.2.2.1 p.2.2.2 >>= fun p =>
      k0_part271 i arg1 harg1 arg2 harg2 arg3 harg3 arg4 harg4 arg5 harg5 arg6 harg6 arg7 harg7 p.1 p.2 >>= fun y => Chart.write arg4 y)
      = (do let y ← Chart.fill arg5 arg6 arg7 arg3; Chart.write arg4 y) := by
  have h270 := fun x1 x2 x3 x4 => piece270 (F := F) i arg1 harg1 arg2 harg2 arg3 harg3 arg4 harg4 arg5 harg5 arg6 harg6 arg7 harg7 x1 x2 x3 x4
  have h269 := fun x1 x2 x3 => piece269 (F := F) i arg1 harg1 arg2 harg2 arg3 harg3 arg4 harg4 arg5 harg5 arg6 harg6 arg7 harg7 x1 x2 x3
  have h268 := fun x1 x2 x3 x4 x5 => piece268 (F := F) i arg1 harg1 arg2 harg2 arg3 harg3 arg4 harg4 arg5 harg5 arg6 harg6 arg7 harg7 x1 x2 x3 x4 x5
  have h267 := piece267 (F := F) i arg1 harg1 arg2 harg2 arg3 harg3 arg4 harg4 arg5 harg5 arg6 harg6 arg7 harg7
  simp only [piece271, Prog.bind_assoc]
  conv_lhs => enter [2, p, 2, q, 2, r]; rw [follow (h270 _ _ _ _)]
  simp only [Prog.bind_assoc]
  conv_lhs => enter [2, p, 2, q]; rw [follow (h269 _ _ _)]
  simp only [Prog.bind_assoc]
  conv_lhs => enter [2, p]; rw [follow (h268 _ _ _ _ _)]
  simp only [Prog.bind_assoc]
  rw [follow h267]
  unfold Chart.fill
  rw [show Chart.widths (F := F) arg5 arg6 arg7 127 1 (by omega) (by omega) = Chart.widths arg5 arg6 arg7 (53 + (28 + (21 + (18 + 7)))) 1 (by omega) (by omega) from rfl,
    Chart.widths_add, Chart.widths_add, Chart.widths_add, Chart.widths_add]
  simp only [Prog.bind_assoc]

/-- The pieces in a row, with each piece's results named or projected. -/
theorem named :
    (do
            let ⟨v2236, v2240, v2245, v2246, v2247⟩ : Σ' (v2236 : FVec F S16x75 .f32) (v2240 : FVec F S16x75 .f32) (v2245 : FVec F S16x75 .f32) (v2246 : FVec F S16x75 .f32), FVec F S16x75 .f32 ← k0_part267 i arg1 harg1 arg2 harg2 arg3 harg3 arg4 harg4 arg5 harg5 arg6 harg6 arg7 harg7
            let ⟨v4502, v4509, v4510⟩ : Σ' (v4502 : FVec F S16x47 .f32) (v4509 : FVec F S16x47 .f32), Vec F S16x16x47 .f32 ← k0_part268 i arg1 harg1 arg2 harg2 arg3 harg3 arg4 harg4 arg5 harg5 arg6 harg6 arg7 harg7 v2236 v2240 v2245 v2246 v2247
            let ⟨v6817, v6818, v6821, v6823⟩ : Σ' (v6817 : FVec F S16x26 .f32) (v6818 : FVec F S16x26 .f32) (v6821 : FVec F S16x26 .f32), FVec F S16x26 .f32 ← k0_part269 i arg1 harg1 arg2 harg2 arg3 harg3 arg4 harg4 arg5 harg5 arg6 harg6 arg7 harg7 v4502 v4509 v4510
            let ⟨v9146, v9153⟩ : Σ' (v9146 : FVec F S16x8 .f32), FVec F S16x8 .f32 ← k0_part270 i arg1 harg1 arg2 harg2 arg3 harg3 arg4 harg4 arg5 harg5 arg6 harg6 arg7 harg7 v6817 v6818 v6821 v6823
            let y : FVec F S16x128 .f32 ← k0_part271 i arg1 harg1 arg2 harg2 arg3 harg3 arg4 harg4 arg5 harg5 arg6 harg6 arg7 harg7 v9146 v9153
            Chart.write arg4 y)
      = (k0_part267 (F := F) i arg1 harg1 arg2 harg2 arg3 harg3 arg4 harg4 arg5 harg5 arg6 harg6 arg7 harg7 >>= fun p =>
            k0_part268 i arg1 harg1 arg2 harg2 arg3 harg3 arg4 harg4 arg5 harg5 arg6 harg6 arg7 harg7 p.1 p.2.1 p.2.2.1 p.2.2.2.1 p.2.2.2.2 >>= fun p =>
            k0_part269 i arg1 harg1 arg2 harg2 arg3 harg3 arg4 harg4 arg5 harg5 arg6 harg6 arg7 harg7 p.1 p.2.1 p.2.2 >>= fun p =>
            k0_part270 i arg1 harg1 arg2 harg2 arg3 harg3 arg4 harg4 arg5 harg5 arg6 harg6 arg7 harg7 p.1 p.2.1 p.2.2.1 p.2.2.2 >>= fun p =>
            k0_part271 i arg1 harg1 arg2 harg2 arg3 harg3 arg4 harg4 arg5 harg5 arg6 harg6 arg7 harg7 p.1 p.2 >>= fun y => Chart.write arg4 y) := rfl

/-- The printed body at a grid point, its chart filling left as it is printed. -/
theorem body_printed :
    cc0__fused_kernel (F := F) i arg1 harg1 arg2 harg2 arg3 harg3 arg4 harg4 arg5 harg5 arg6 harg6 arg7 harg7
      = Chart.body arg1 arg2 arg5 (k0_off1 i) (k0_off2 i) (K0.Facts₀.k0_off1_inb i) (K0.Facts₀.k0_off2_inb i) (k0_cond1 i)
          (do
            let ⟨v2236, v2240, v2245, v2246, v2247⟩ : Σ' (v2236 : FVec F S16x75 .f32) (v2240 : FVec F S16x75 .f32) (v2245 : FVec F S16x75 .f32) (v2246 : FVec F S16x75 .f32), FVec F S16x75 .f32 ← k0_part267 i arg1 harg1 arg2 harg2 arg3 harg3 arg4 harg4 arg5 harg5 arg6 harg6 arg7 harg7
            let ⟨v4502, v4509, v4510⟩ : Σ' (v4502 : FVec F S16x47 .f32) (v4509 : FVec F S16x47 .f32), Vec F S16x16x47 .f32 ← k0_part268 i arg1 harg1 arg2 harg2 arg3 harg3 arg4 harg4 arg5 harg5 arg6 harg6 arg7 harg7 v2236 v2240 v2245 v2246 v2247
            let ⟨v6817, v6818, v6821, v6823⟩ : Σ' (v6817 : FVec F S16x26 .f32) (v6818 : FVec F S16x26 .f32) (v6821 : FVec F S16x26 .f32), FVec F S16x26 .f32 ← k0_part269 i arg1 harg1 arg2 harg2 arg3 harg3 arg4 harg4 arg5 harg5 arg6 harg6 arg7 harg7 v4502 v4509 v4510
            let ⟨v9146, v9153⟩ : Σ' (v9146 : FVec F S16x8 .f32), FVec F S16x8 .f32 ← k0_part270 i arg1 harg1 arg2 harg2 arg3 harg3 arg4 harg4 arg5 harg5 arg6 harg6 arg7 harg7 v6817 v6818 v6821 v6823
            let y : FVec F S16x128 .f32 ← k0_part271 i arg1 harg1 arg2 harg2 arg3 harg3 arg4 harg4 arg5 harg5 arg6 harg6 arg7 harg7 v9146 v9153
            Chart.write arg4 y) := rfl

/-- The printed body at a grid point. -/
theorem body_eq :
    cc0__fused_kernel (F := F) i arg1 harg1 arg2 harg2 arg3 harg3 arg4 harg4 arg5 harg5 arg6 harg6 arg7 harg7
      = Chart.body arg1 arg2 arg5 (k0_off1 i) (k0_off2 i) (K0.Facts₀.k0_off1_inb i) (K0.Facts₀.k0_off2_inb i) (k0_cond1 i)
          (do let y ← Chart.fill arg5 arg6 arg7 arg3; Chart.write arg4 y) := by
  rw [body_printed, named, filling]

end

end Cert.KernelIdeal.Gen

end
-- ==== Proof.FrameI.lean ====
/- The idealized kernel's run.

   Between grid points the kernel carries the scratch with the scores of the sentences met so far, the two charts at anything.
   At the last point the scratch is full, the chart is filled and the answers are written out. -/
module

public import proofs.«01_k».proof.Proof.Lay
public import proofs.«01_k».proof.Proof.RegionI
public import proofs.«01_k».proof.Proof.Gen.KernelIdeal
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The condition of the last part holds at the last point only. -/
theorem last_iff : ∀ t : Fin cfg0.N, k0_cond1 (grid0.coords t) = 1#1 ↔ t.val = 15 := by decide +kernel

/-- A sentence's first band goes in at the sentence's number. -/
theorem off1_eq : ∀ t : Fin cfg0.N, k0_off1 (grid0.coords t) = ![t.val, 0, 0] := by decide +kernel

/-- Its second band goes in beside the first. -/
theorem off2_eq : ∀ t : Fin cfg0.N, k0_off2 (grid0.coords t) = ![t.val, 0, 64] := by decide +kernel

/-- Before the last point the answers' window is idle, -/
theorem idle_early : ∀ t : Fin cfg0.N, t.val ≠ 15 → cfg0.idle 3 (grid0.coords t) = true := by decide +kernel

/-- and not written back; -/
theorem noFlush_early : ∀ t : Fin cfg0.N, t.val ≠ 15 → (cfg0.win 3).flush t = false := by decide +kernel

/-- at the last it is live. -/
theorem live_last : ∀ t : Fin cfg0.N, t.val = 15 → cfg0.idle 3 (grid0.coords t) = false := by decide +kernel

/-- A point, as the sentence it brings. -/
abbrev sentence (t : Fin cfg0.N) : Fin 16 := t.cast N_0

/-! ## The blocks and the answers -/

/-- The first band's block of each sentence. -/
def tops (c : Dev nD) : Chart.Tops F := fun b => iblk m c 0 (b.cast N_0.symm)

/-- The second band's block of each sentence. -/
def bottoms (c : Dev nD) : Chart.Bottoms F := fun b => iblk m c 1 (b.cast N_0.symm)

/-- What the last point writes out. -/
def result (c : Dev nD) (t : Fin cfg0.N) : Vec F S16x128 .f32 :=
  Chart.answers (Chart.scores (tops m c) (bottoms m c)) (iblk m c 2 t)

/-! ## The proof data -/

/-- The windows' staging buffers and the scratch. -/
abbrev top (t : Fin cfg0.N) : Memref sig .tc .vmem S1x64x128x128 .f32 := win0_0.stage (cfg0.slots t 0)
abbrev bottom (t : Fin cfg0.N) : Memref sig .tc .vmem S1x64x64x128 .f32 := win0_1.stage (cfg0.slots t 1)
abbrev lengths (t : Fin cfg0.N) : Memref sig .tc .vmem S1x16 .i32 := win0_2.stage (cfg0.slots t 2)
abbrev out (t : Fin cfg0.N) : Memref sig .tc .vmem S16x128 .f32 := win0_3.stage (cfg0.slots t 3)
abbrev skew : Memref sig .tc .vmem S16x128x128 .f32 := Memref.whole cc0_scratch0
abbrev chart1 : Memref sig .tc .vmem S128x16x128 .f32 := Memref.whole cc0_scratch1
abbrev chart2 : Memref sig .tc .vmem S128x16x128 .f32 := Memref.whole cc0_scratch2

/-- What the launch hands over, the scratch by its memrefs. -/
theorem handed (c : Dev nD) :
    (Pipeline.ΦA spec0 c : sProp 𝕄)
      = iprop(iprop((∃ d, owns (c : Thread nD τ) skew fullShare d) ∗ (∃ d, owns (c : Thread nD τ) chart1 fullShare d)
          ∗ (∃ d, owns (c : Thread nD τ) chart2 fullShare d)) ∗ (∃ r, prngReg c r)) := by
  unfold Pipeline.ΦA; rw [scopedRest0_eq]; simp only [skew, chart1, chart2, owns_whole]; try rfl

/-- What is carried into point `n`. -/
def carried (c : Dev nD) (n : ℕ) : sProp 𝕄 :=
  iprop(iprop((∃ x, ⌜Chart.Filled (tops m c) (bottoms m c) n x⌝ ∗ owns (c : Thread nD τ) skew fullShare x)
    ∗ (∃ d, owns (c : Thread nD τ) chart1 fullShare d) ∗ (∃ d, owns (c : Thread nD τ) chart2 fullShare d)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c t
  Φ t := carried m c t.val
  q w := Pipeline.shareOf spec0 w
  owed _ := 0

theorem A_eq (c : Dev nD) (w : Fin cfg0.W) : (dats m 0 c).A w = V m c (Pipeline.arrRef spec0 w) := by dsimp only [dats]
theorem after_top (c : Dev nD) (t : Fin cfg0.N) : (dats m 0 c).after 0 t = iblk m c 0 t := by dsimp only [dats]
theorem after_bottom (c : Dev nD) (t : Fin cfg0.N) : (dats m 0 c).after 1 t = iblk m c 1 t := by dsimp only [dats]
theorem after_lengths (c : Dev nD) (t : Fin cfg0.N) : (dats m 0 c).after 2 t = iblk m c 2 t := by dsimp only [dats]
theorem after_out (c : Dev nD) (t : Fin cfg0.N) : (dats m 0 c).after 3 t = result m c t := by dsimp only [dats]

theorem before_top (c : Dev nD) (t : Fin cfg0.N) (d) : (dats m 0 c).before 0 t d = iblk m c 0 t :=
  before0_0_of m (dats m 0 c) (A_eq m c 0) (after_top m c) t d
theorem before_bottom (c : Dev nD) (t : Fin cfg0.N) (d) : (dats m 0 c).before 1 t d = iblk m c 1 t :=
  before0_1_of m (dats m 0 c) (A_eq m c 1) (after_bottom m c) t d
theorem before_lengths (c : Dev nD) (t : Fin cfg0.N) (d) : (dats m 0 c).before 2 t d = iblk m c 2 t :=
  before0_2_of m (dats m 0 c) (A_eq m c 2) (after_lengths m c) t d

/-- The memrefs an input's window leaves hold its block. -/
theorem leaves_top (c : Dev nD) (t : Fin cfg0.N) : (dats m 0 c).leavesExact 0 t = owns (c : Thread nD τ) (top t) fullShare (iblk m c 0 t) := by
  unfold Dat.leavesExact; rw [show cfg0.idle 0 (grid0.coords t) = false from rfl, after_top]
theorem leaves_bottom (c : Dev nD) (t : Fin cfg0.N) : (dats m 0 c).leavesExact 1 t = owns (c : Thread nD τ) (bottom t) fullShare (iblk m c 1 t) := by
  unfold Dat.leavesExact; rw [show cfg0.idle 1 (grid0.coords t) = false from rfl, after_bottom]
theorem leaves_lengths (c : Dev nD) (t : Fin cfg0.N) : (dats m 0 c).leavesExact 2 t = owns (c : Thread nD τ) (lengths t) fullShare (iblk m c 2 t) := by
  unfold Dat.leavesExact; rw [show cfg0.idle 2 (grid0.coords t) = false from rfl, after_lengths]
theorem leaves_out (c : Dev nD) (t : Fin cfg0.N) (h : t.val = 15) : (dats m 0 c).leavesExact 3 t = owns (c : Thread nD τ) (out t) fullShare (result m c t) := by
  unfold Dat.leavesExact; rw [live_last t h, after_out]

/-- One point's body, over what is carried. -/
theorem sound (c : Dev nD) (t : Fin cfg0.N) :
    iprop(carried m c t.val ∗ (dats m 0 c).owesAt () t.castSucc
        ∗ (∃ d, owns (c : Thread nD τ) (top t) fullShare ((dats m 0 c).before 0 t d))
        ∗ (∃ d, owns (c : Thread nD τ) (bottom t) fullShare ((dats m 0 c).before 1 t d))
        ∗ (∃ d, owns (c : Thread nD τ) (lengths t) fullShare ((dats m 0 c).before 2 t d))
        ∗ (∃ d, owns (c : Thread nD τ) (out t) fullShare ((dats m 0 c).before 3 t d)))
      ⊢ wp frame (wpE (defs₀ (F := F)) Variants.none c none) Set.univ (bodyAt0 t) (fun _ =>
        iprop(carried m c (t.val + 1) ∗ (dats m 0 c).owesAt () t.castSucc
          ∗ (dats m 0 c).leavesExact 0 t ∗ (dats m 0 c).leavesExact 1 t ∗ (dats m 0 c).leavesExact 2 t ∗ (dats m 0 c).leavesExact 3 t)) := by
  unfold bodyAt0
  simp only [before_top, before_bottom, before_lengths]
  rw [leaves_top, leaves_bottom, leaves_lengths, body_eq]
  unfold carried
  iintro ⟨⟨⟨⟨%x, %hx, HD⟩, HA, HB⟩, Hg⟩, Ho, ⟨%d0, H0⟩, ⟨%d1, H1⟩, ⟨%d2, H2⟩, ⟨%d3, H3⟩⟩
  iapply (Chart.body_rule (defs := defs₀ (F := F)) Variants.none c none Set.univ _ _ _ _ _ (iblk m c 0 t) (iblk m c 1 t) (iblk m c 2 t) _ x _)
  isplitl [H0]; · iexact H0
  isplitl [H1]; · iexact H1
  isplitl [H2]; · iexact H2
  isplitl [H3]; · iexact H3
  isplitl [HD]; · iexact HD
  isplitl [HA]; · iexact HA
  isplitl [HB]; · iexact HB
  have hl : Chart.Filled (tops m c) (bottoms m c) (t.val + 1)
      (Chart.laid (k0_off1 (grid0.coords t)) (k0_off2 (grid0.coords t)) (iblk m c 0 t) (iblk m c 1 t) x) :=
    Chart.Filled.next (n := sentence t) hx _ _ (off1_eq t) (off2_eq t)
  iintro ⟨H0, H1, H2, H3, HD, HA, HB⟩
  isplitl [HD HA HB Hg]
  · isplitl [HD HA HB]
    · isplitl [HD]
      · iexists _; isplitr
        swap; · iexact HD
        ipureintro; exact hl
      isplitl [HA]; · iexact HA
      iexact HB
    iexact Hg
  isplitl [Ho]; · iexact Ho
  isplitl [H0]; · iexact H0
  isplitl [H1]; · iexact H1
  isplitl [H2]; · iexact H2
  by_cases h : t.val = 15
  · rw [leaves_out m c t h, if_pos ((last_iff t).mpr h), Chart.Filled.scores (by rw [h] at hl; exact hl)]
    iexact H3
  · rw [Dat.leavesExact_idle (dats m 0 c) 3 t (idle_early t h) (noFlush_early t h), if_neg (fun k => h ((last_iff t).mp k))]
    iexists _; iexact H3

/-- The body table's row at a point's slots is the body there. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-- What the launch hands over is what is carried into the first point. -/
theorem enters (c : Dev nD) : Pipeline.ΦA spec0 c ⊢ (dats m 0 c).Φ 0 := by
  rw [show (dats m 0 c).Φ 0 = carried m c 0 from rfl, handed]
  unfold carried
  iintro ⟨⟨⟨%x, HD⟩, HA, HB⟩, Hg⟩
  isplitl [HD HA HB]
  · isplitl [HD]
    · iexists x; isplitr
      swap; · iexact HD
      ipureintro; exact Chart.Filled.zero _ _ x
    isplitl [HA]; · iexact HA
    iexact HB
  iexact Hg

/-- After the last point it is handed back. -/
theorem leaves (c : Dev nD) : (dats m 0 c).Φ (Fin.last cfg0.N) ⊢ Pipeline.ΦA spec0 c := by
  rw [show (dats m 0 c).Φ (Fin.last cfg0.N) = carried m c cfg0.N from rfl, handed]
  unfold carried
  iintro ⟨⟨⟨%x, %hx, HD⟩, HA, HB⟩, Hg⟩
  isplitl [HD HA HB]
  · isplitl [HD]; · iexists x; iexact HD
    isplitl [HA]; · iexact HA
    iexact HB
  iexact Hg

/-! ## The run -/

set_option backward.isDefEq.respectTransparency.types false in
set_option maxHeartbeats 800000 in
/-- Every fair execution ends, each window's array at what the proof data says and every semaphore at zero. -/
theorem ends : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

/-- The frame: the arguments end as they were, and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (ends m ρ)))
    ((θ_run defs _ _).mono (fun _ h => h.2) (ends m ρ))

end Cert.KernelIdeal.Gen

end
-- ==== Proof.LogSum.lean ====
/- Sums of the log semiring over the extended reals.

   A score below plus infinity is the logarithm of a real that is not negative: minus infinity is the logarithm of zero.
   A sum of the semiring, log of a sum of exponentials, may have a number taken out first: the largest of the terms, or
   the largest of a group of them, and the groups may be merged one by one.  The result is the logarithm of the plain sum. -/
module

public import Idealize.ShloMosaic.PureOps.Ideal
public import Idealize.ShloMosaic.PureOps.Ideal.Laws

@[expose] public section

noncomputable section

namespace LogSum

open Idealize.ShloMosaic

/-- The real whose logarithm a score is. -/
def ex (x : EReal) : ℝ := (Ideal.exp x).toReal

theorem ex_bot : ex ⊥ = 0 := by simp [ex]

theorem ex_coe (r : ℝ) : ex (r : EReal) = Real.exp r := by simp [ex]

/-- It is not negative. -/
theorem ex_nonneg (x : EReal) : 0 ≤ ex x := by
  induction x with
  | bot => rw [ex_bot]
  | coe r => rw [ex_coe]; exact (Real.exp_pos r).le
  | top => simp [ex]

/-- Below plus infinity the exponential is that real. -/
theorem exp_eq {x : EReal} (h : x < ⊤) : Ideal.exp x = (ex x : EReal) := by
  induction x with
  | bot => rw [ex_bot]; simp
  | coe r => rw [ex_coe]; simp
  | top => exact absurd h (lt_irrefl _)

/-- And the score is its logarithm. -/
theorem log_ex {x : EReal} (h : x < ⊤) : Ideal.log (ex x : EReal) = x := by
  induction x with
  | bot => rw [ex_bot, Ideal.log_coe, if_pos le_rfl]
  | coe r => rw [ex_coe, Ideal.log_coe, if_neg (not_le.mpr (Real.exp_pos r)), Real.log_exp]
  | top => exact absurd h (lt_irrefl _)

/-- A logarithm of a real is below plus infinity. -/
theorem log_lt (r : ℝ) : Ideal.log (r : EReal) < ⊤ := by
  rw [Ideal.log_coe]
  split
  · exact bot_lt_top
  · exact EReal.coe_lt_top _

/-- The real of a logarithm. -/
theorem ex_log {r : ℝ} (h : 0 ≤ r) : ex (Ideal.log (r : EReal)) = r := by
  rw [Ideal.log_coe]
  split
  · rw [ex_bot]; linarith
  · rw [ex_coe, Real.exp_log (by linarith)]

theorem add_lt {x y : EReal} (hx : x < ⊤) (hy : y < ⊤) : x + y < ⊤ := EReal.add_lt_top hx.ne hy.ne

/-- The real of a sum of two scores is the product. -/
theorem ex_add {x y : EReal} (hx : x < ⊤) (hy : y < ⊤) : ex (x + y) = ex x * ex y := by
  induction x with
  | top => exact absurd hx (lt_irrefl _)
  | bot => rw [EReal.bot_add, ex_bot, zero_mul]
  | coe r =>
    induction y with
    | top => exact absurd hy (lt_irrefl _)
    | bot => rw [EReal.add_bot, ex_bot, mul_zero]
    | coe s => rw [← EReal.coe_add, ex_coe, ex_coe, ex_coe, Real.exp_add]

/-- Taking out a number no smaller: what is left over is a real not below zero, and times the number's real it is the term's. -/
theorem exp_sub {x m : EReal} (hm : m < ⊤) (h : x ≤ m) :
    ∃ r : ℝ, 0 ≤ r ∧ Ideal.exp (x - m) = (r : EReal) ∧ r * ex m = ex x := by
  have hx : x < ⊤ := h.trans_lt hm
  induction m with
  | top => exact absurd hm (lt_irrefl _)
  | bot =>
    obtain rfl : x = ⊥ := le_bot_iff.mp h
    exact ⟨0, le_rfl, by rw [sub_eq_add_neg, EReal.bot_add]; simp, by rw [zero_mul, ex_bot]⟩
  | coe s =>
    induction x with
    | top => exact absurd hx (lt_irrefl _)
    | bot => exact ⟨0, le_rfl, by rw [sub_eq_add_neg, EReal.bot_add]; simp, by rw [zero_mul, ex_bot]⟩
    | coe r =>
      exact ⟨Real.exp (r - s), (Real.exp_pos _).le, by rw [← EReal.coe_sub, Ideal.exp_coe],
        by rw [ex_coe, ex_coe, ← Real.exp_add, sub_add_cancel]⟩

/-- A logarithm with a number put back. -/
theorem log_add {p : ℝ} {m : EReal} (hp : 0 ≤ p) (hm : m < ⊤) : Ideal.log (p : EReal) + m = Ideal.log ((p * ex m : ℝ) : EReal) := by
  rw [← log_ex (add_lt (log_lt p) hm), ex_add (log_lt p) hm, ex_log hp]

/-! ## Running sums -/

/-- `pm` and `ps` stand for the sum `S`: `S` with `pm` taken out is `ps`. -/
def Run (pm ps : EReal) (S : ℝ) : Prop := pm < ⊤ ∧ ∃ p : ℝ, 0 ≤ p ∧ ps = (p : EReal) ∧ p * ex pm = S

/-- One term stands for itself. -/
theorem Run.one {t : EReal} (h : t < ⊤) : Run t 1 (ex t) := ⟨h, 1, zero_le_one, EReal.coe_one.symm, one_mul _⟩

/-- The real of a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A group of terms with their largest taken out. -/
theorem Run.group {n : ℕ} {t : Fin n → EReal} (h : ∀ k, t k < ⊤) :
    Run ((Finset.univ : Finset (Fin n)).fold max ⊥ t)
      (∑ k, Ideal.exp (t k - (Finset.univ : Finset (Fin n)).fold max ⊥ t)) (∑ k, ex (t k)) := by
  have hm : (Finset.univ : Finset (Fin n)).fold max ⊥ t < ⊤ :=
    (Finset.fold_max_lt _).mpr ⟨bot_lt_top, fun k _ => h k⟩
  have hle : ∀ k, t k ≤ (Finset.univ : Finset (Fin n)).fold max ⊥ t := fun k =>
    (Finset.le_fold_max _).mpr (.inr ⟨k, Finset.mem_univ k, le_rfl⟩)
  choose r h0 h1 h2 using fun k => exp_sub hm (hle k)
  refine ⟨hm, ∑ k, r k, Finset.sum_nonneg fun k _ => h0 k, ?_, ?_⟩
  · rw [coe_sum]; exact Finset.sum_congr rfl fun k _ => h1 k
  · rw [Finset.sum_mul]; exact Finset.sum_congr rfl fun k _ => h2 k

/-- Two running sums merged below the larger of what was taken out. -/
theorem Run.blend {a b c d : EReal} {S T : ℝ} (h : Run a b S) (h' : Run c d T) :
    Run (max a c) (b * Ideal.exp (a - max a c) + d * Ideal.exp (c - max a c)) (S + T) := by
  obtain ⟨ha, p, hp, rfl, hS⟩ := h
  obtain ⟨hc, q, hq, rfl, hT⟩ := h'
  have hm : max a c < ⊤ := max_lt ha hc
  obtain ⟨r, hr, er, mr⟩ := exp_sub hm (le_max_left a c)
  obtain ⟨s, hs, es, ms⟩ := exp_sub hm (le_max_right a c)
  refine ⟨hm, p * r + q * s, by positivity, ?_, ?_⟩
  · rw [er, es, EReal.coe_add, EReal.coe_mul, EReal.coe_mul]
  · rw [← hS, ← hT, ← mr, ← ms]; ring

/-- At the end the logarithm of the sum. -/
theorem Run.done {a b : EReal} {S : ℝ} (h : Run a b S) : Ideal.log b + a = Ideal.log (S : EReal) := by
  obtain ⟨ha, p, hp, rfl, rfl⟩ := h
  exact log_add hp ha

/-- The plain sum. -/
theorem log_sum {n : ℕ} {t : Fin n → EReal} (h : ∀ k, t k < ⊤) :
    Ideal.log (∑ k, Ideal.exp (t k)) = Ideal.log ((∑ k, ex (t k) : ℝ) : EReal) := by
  rw [coe_sum]
  exact congrArg _ (Finset.sum_congr rfl fun k _ => exp_eq (h k))

/-! ## The chart -/

/-- The score of all the trees over the span of width `w` from `i`: the sum over the splits of the products of the parts', times
    the span's own. -/
def trees (d : ℕ → ℕ → EReal) : ℕ → ℕ → EReal
  | 0, i => d 0 i
  | w + 1, i => Ideal.log ((∑ k : Fin (w + 1), ex (trees d k.val i + trees d (w - k.val) (i + k.val + 1)) : ℝ) : EReal) + d (w + 1) i
termination_by w => w
decreasing_by
  · exact k.isLt
  · omega

/-- It is below plus infinity where the spans' own scores are. -/
theorem trees_lt {d : ℕ → ℕ → EReal} (h : ∀ w i, d w i < ⊤) (w i : ℕ) : trees d w i < ⊤ := by
  cases w with
  | zero => rw [trees]; exact h 0 i
  | succ w => rw [trees]; exact add_lt (log_lt _) (h _ _)

/-- A width at least one, its splits counted below it. -/
theorem trees_pos (d : ℕ → ℕ → EReal) {w : ℕ} (h : 0 < w) (i : ℕ) :
    trees d w i = Ideal.log ((∑ k ∈ Finset.range w, ex (trees d k i + trees d (w - 1 - k) (i + k + 1)) : ℝ) : EReal) + d w i := by
  obtain ⟨v, rfl⟩ : ∃ v, w = v + 1 := ⟨w - 1, by omega⟩
  rw [trees, Finset.sum_range]
  rfl

end LogSum

end
-- ==== Proof.Fill.lean ====
/- The chart over the extended reals.

   At every width the kernel's groups of splits, merged, are the logarithm of the plain sum over all the splits; so the
   first chart holds at row `w` and position `i` the score of all the trees over the span of width `w` from `i`. -/
module

public import proofs.«01_k».proof.Proof.Runs
public import proofs.«01_k».proof.Proof.LogSum
public import Idealize.ShloMosaic.Lib.Pointwise

@[expose] public section

noncomputable section

namespace Chart

open Idealize.ShloMosaic LogSum

/-- The word of minus infinity. -/
theorem word_bot : (FloatOps.ofBits .f32 0xFF800000#32 : Ideal .f32) = ⊥ := by
  show Ideal.ofBits .f32 0xFF800000#32 = ⊥
  simp [Ideal.ofBits, Ideal.ieee]

/-- The word of one. -/
theorem word_one : (FloatOps.ofBits .f32 0x3F800000#32 : Ideal .f32) = 1 := by
  show Ideal.ofBits .f32 0x3F800000#32 = 1
  simp [Ideal.ofBits, Ideal.ieee]
  rw [← EReal.coe_mul, ← EReal.coe_one]
  norm_num

/-- A group's largest, read at a sentence and a position. -/
theorem peak_apply {g n : ℕ} (t : FVec Ideal (Box g n) .f32) (y : (Row n).Idx) :
    peak t y = (Finset.univ : Finset (Fin g)).fold max ⊥ fun k => t (ix3 k (y 0) (y 1)) := by
  refine (Ideal.multiReduction_maximumf_single t _ (box_reduces g n) _ _ y).trans ?_
  rw [word_bot]
  refine congrArg (fun f => (Finset.univ : Finset (Fin g)).fold max (⊥ : EReal) f) (funext fun k => congrArg t (funext fun a => ?_))
  match a with
  | ⟨0, _⟩ => rfl
  | ⟨1, _⟩ => rfl
  | ⟨2, _⟩ => rfl

/-- A group's mass, read likewise. -/
theorem mass_apply {g n : ℕ} (t : FVec Ideal (Box g n) .f32) (y : (Row n).Idx) :
    mass t y = ∑ k : Fin g, Ideal.exp (t (ix3 k (y 0) (y 1)) - (Finset.univ : Finset (Fin g)).fold max ⊥ fun k => t (ix3 k (y 0) (y 1))) := by
  refine (Ideal.multiReduction_add_single _ _ (box_reduces g n) _ _ y).trans ?_
  refine Finset.sum_congr rfl fun k _ => ?_
  have e : (box_reduces g n).lift y k = ix3 k (y 0) (y 1) := funext fun a => by
    match a with
    | ⟨0, _⟩ => rfl
    | ⟨1, _⟩ => rfl
    | ⟨2, _⟩ => rfl
  rw [e]
  show Ideal.exp (t (ix3 k (y 0) (y 1)) - broadcastTo (Box g n) (shapeCast (Box 1 n) (peak t) (row_box n)) (box_bcast g n) (ix3 k (y 0) (y 1))) = _
  congr 2
  rw [← peak_apply t y]
  show shapeCast (Box 1 n) (peak t) (row_box n) _ = _
  rw [shapeCast_addUnit_apply ![16, n] (peak t) (row_box n)]
  refine congrArg (peak t) (funext fun a => Fin.ext ?_)
  match a with
  | ⟨0, _⟩ => rfl
  | ⟨1, _⟩ =>
    split
    · have : (y 1).val < n := (y 1).isLt
      have : n = 1 := ‹_›
      show 0 = (y 1).val
      omega
    · rfl

/-- A group of splits stands for its own sum. -/
theorem group_run {g n : ℕ} (t : FVec Ideal (Box g n) .f32) (y : (Row n).Idx) (τ : ℕ → EReal) (c : ℕ)
    (h : ∀ k : Fin g, t (ix3 k (y 0) (y 1)) = τ (c + k.val)) (hτ : ∀ k, τ k < ⊤) :
    Run (peak t y) (mass t y) (∑ k ∈ Finset.range g, ex (τ (c + k))) := by
  rw [peak_apply, mass_apply, Finset.sum_range]
  simp only [h]
  exact Run.group fun k => hτ _

/-- A group of one split, read. -/
theorem lone_apply {n : ℕ} (t : FVec Ideal (Box 1 n) .f32) (y : (Row n).Idx) :
    shapeCast (Row n) t (box_row n) y = t (ix3 0 (y 0) (y 1)) := by
  rw [shapeCast_dropUnit_apply ![16, n] t (box_row n)]
  refine congrArg t (funext fun a => ?_)
  match a with
  | ⟨0, _⟩ => rfl
  | ⟨1, _⟩ => rfl
  | ⟨2, _⟩ => rfl

section Merge

variable (a b : Cells Ideal) (w : ℕ) (hw : w < 128) (s : Fin 16) (i : Fin (128 - w)) (τ : ℕ → EReal) (hτ : ∀ k, τ k < ⊤)
  (H : ∀ (c g : ℕ) (hc : c + g ≤ w) (k : Fin g), splitsV a b w c g hw hc (ix3 k s i) = τ (c + k.val))
include hτ H

/-- The groups from split `c` on, merged into a pair that stands for the splits before: the logarithm of the whole sum. -/
theorem mergeV_apply (r : ℕ) : ∀ (q c : ℕ) (h : c + 16 * q + r = w) (pm ps : FVec Ideal (Row (128 - w)) .f32),
    Run (pm (ix2 s i)) (ps (ix2 s i)) (∑ k ∈ Finset.range c, ex (τ k)) →
    mergeV a b w hw r q c h pm ps (ix2 s i) = Ideal.log ((∑ k ∈ Finset.range w, ex (τ k) : ℝ) : EReal)
  | q + 1, c, h, pm, ps, hr => by
    rw [mergeV]
    refine mergeV_apply r q (c + 16) (by omega) _ _ ?_
    rw [Finset.sum_range_add]
    exact hr.blend (group_run _ (ix2 s i) τ c (H c 16 _) hτ)
  | 0, c, h, pm, ps, hr => by
    match r, h with
    | 0, h =>
      obtain rfl : c = w := by omega
      exact hr.done
    | 1, h =>
      obtain rfl : c + 1 = w := by omega
      rw [Finset.sum_range_succ]
      have e : shapeCast (Row (128 - (c + 1))) (splitsV a b (c + 1) c 1 hw (by omega)) (box_row _) (ix2 s i) = τ c :=
        (lone_apply _ (ix2 s i)).trans (H c 1 _ 0)
      show Ideal.log (ps (ix2 s i) * Ideal.exp (pm (ix2 s i) - max (pm (ix2 s i))
            (shapeCast (Row (128 - (c + 1))) (splitsV a b (c + 1) c 1 hw (by omega)) (box_row _) (ix2 s i)))
          + (FloatOps.ofBits .f32 0x3F800000#32 : Ideal .f32) * Ideal.exp (shapeCast (Row (128 - (c + 1))) (splitsV a b (c + 1) c 1 hw (by omega)) (box_row _) (ix2 s i)
            - max (pm (ix2 s i)) (shapeCast (Row (128 - (c + 1))) (splitsV a b (c + 1) c 1 hw (by omega)) (box_row _) (ix2 s i))))
        + max (pm (ix2 s i)) (shapeCast (Row (128 - (c + 1))) (splitsV a b (c + 1) c 1 hw (by omega)) (box_row _) (ix2 s i)) = _
      rw [e, word_one]
      exact (hr.blend (Run.one (hτ c))).done
    | r + 2, h =>
      obtain rfl : c + (r + 2) = w := by omega
      rw [Finset.sum_range_add]
      exact (hr.blend (group_run _ (ix2 s i) τ c (H c (r + 2) _) hτ)).done

/-- All splits merged. -/
theorem insideV_apply : ∀ (q r : ℕ) (h : 16 * q + r = w) (h0 : 0 < w),
    insideV a b w hw q r h h0 (ix2 s i) = Ideal.log ((∑ k ∈ Finset.range w, ex (τ k) : ℝ) : EReal)
  | q + 1, r, h, h0 => by
    rw [insideV]
    refine mergeV_apply a b w hw s i τ hτ H r q 16 _ _ _ ?_
    have := group_run _ (ix2 s i) τ 0 (H 0 16 (by omega)) hτ
    simpa only [Nat.zero_add] using this
  | 0, 0, h, h0 => absurd h (by omega)
  | 0, 1, h, h0 => by
    obtain rfl : 1 = w := by omega
    rw [insideV, lone_apply]
    refine (H 0 1 _ 0).trans ?_
    rw [Finset.sum_range_one, log_ex (hτ 0)]
    rfl
  | 0, r + 2, h, h0 => by
    obtain rfl : r + 2 = w := by omega
    have := group_run _ (ix2 s i) τ 0 (H 0 (r + 2) (by omega)) hτ
    simp only [Nat.zero_add] at this
    exact this.done

end Merge

/-- A span's own score, of one sentence; minus infinity where there is no span. -/
def own (d : Scores Ideal) (s : Fin 16) (v i : ℕ) : EReal :=
  if h : v + i < 128 then d v (by omega) (ix3 s 0 (⟨i, by omega⟩ : Fin (128 - v))) else ⊥

/-- A row written into a chart, read where it was written. -/
theorem over_hit {n : ℕ} (x : Cells Ideal) (a o : ℕ) (ha : a < 128) (y : FVec Ideal (Row n) .f32) (s : Fin 16) (i : Fin n)
    (h : o + i.val < 128) :
    over x a 1 o n (shapeCast (Box 1 n) y (row_box n)) (ix3 ⟨a, ha⟩ s ⟨o + i.val, h⟩) = y (ix2 s i) := by
  unfold over VecWindow.put
  rw [dif_pos (fun c => by
    match c with
    | ⟨0, _⟩ => exact ⟨le_rfl, Nat.lt_succ_self _⟩
    | ⟨1, _⟩ => exact ⟨Nat.zero_le _, by show s.val < 0 + 16; omega⟩
    | ⟨2, _⟩ => exact ⟨Nat.le_add_right _ _, Nat.add_lt_add_left i.isLt _⟩)]
  rw [shapeCast_addUnit_apply ![16, n] y (row_box n)]
  refine congrArg y (funext fun c => Fin.ext ?_)
  match c with
  | ⟨0, _⟩ => exact Nat.sub_zero _
  | ⟨1, _⟩ => exact Nat.add_sub_cancel_left _ _

/-- And read in another row. -/
theorem over_miss {n : ℕ} (x : Cells Ideal) (a o : ℕ) (v : FVec Ideal (Box 1 n) .f32) (r : Fin 128) (s : Fin 16) (i : Fin 128)
    (h : r.val ≠ a) : over x a 1 o n v (ix3 r s i) = x (ix3 r s i) := by
  unfold over VecWindow.put
  rw [dif_neg (fun k => h ((Nat.lt_succ_iff.mp (k 0).2).antisymm (k 0).1))]

/-- The charts hold every span of the widths below `w`. -/
def Holds (d : Scores Ideal) (w : ℕ) (p : Cells Ideal × Cells Ideal) : Prop :=
  ∀ (v i : ℕ) (s : Fin 16), v < w → ∀ h : v + i < 128,
    p.1 (ix3 ⟨v, by omega⟩ s ⟨i, by omega⟩) = trees (own d s) v i
      ∧ p.2 (ix3 ⟨127 - v, by omega⟩ s ⟨v + i, h⟩) = trees (own d s) v i

variable {d : Scores Ideal} (hd : ∀ s v i, own d s v i < ⊤)

/-- A width's scores as a row. -/
theorem diag_apply {n : ℕ} (x : FVec Ideal (Diag n) .f32) (s : Fin 16) (i : Fin n) :
    shapeCast (Row n) x (diag_row n) (ix2 s i) = x (ix3 s 0 i) := by
  refine shapeCast_apply x (diag_row n) (ix2 s i) (ix3 s 0 i) ?_
  rw [rowMajor_val3 _ (1 * n) n rfl rfl, rowMajor_val2 _ n rfl]
  show (s.val * (1 * n) + 0 * n + i.val) = s.val * n + i.val
  rw [one_mul, zero_mul, add_zero]

include hd in
/-- The row of the next width. -/
theorem rowV_apply {w : ℕ} {p : Cells Ideal × Cells Ideal} (hp : Holds d w p) (hw : w < 128) (h0 : 0 < w) (s : Fin 16) (i : Fin (128 - w)) :
    rowV d p.1 p.2 w hw h0 (ix2 s i) = trees (own d s) w i.val := by
  have hi := i.isLt
  rw [trees_pos _ h0]
  show insideV p.1 p.2 w hw (w / 16) (w % 16) (Nat.div_add_mod w 16) h0 (ix2 s i) + shapeCast (Row (128 - w)) (d w hw) (diag_row _) (ix2 s i) = _
  rw [diag_apply, insideV_apply p.1 p.2 w hw s i
    (fun k => trees (own d s) k i.val + trees (own d s) (w - 1 - k) (i.val + k + 1))
    (fun k => add_lt (trees_lt (hd s) _ _) (trees_lt (hd s) _ _)) (fun c g hc k => ?_)]
  · congr 1
    unfold own
    rw [dif_pos (show w + i.val < 128 by omega)]
  · have hk := k.isLt
    refine congrArg₂ (· + ·) ?_ ?_
    · refine (congrArg p.1 ?_).trans (hp (c + k.val) i.val s (by omega) (by omega)).1
      refine funext fun x => Fin.ext ?_
      match x with
      | ⟨0, _⟩ => show c + 1 * k.val = c + k.val; omega
      | ⟨1, _⟩ => show 0 + 1 * s.val = s.val; omega
      | ⟨2, _⟩ => show 0 + 1 * i.val = i.val; omega
    · refine (congrArg p.2 ?_).trans (hp (w - 1 - (c + k.val)) (i.val + (c + k.val) + 1) s (by omega) (by omega)).2
      refine funext fun x => Fin.ext ?_
      match x with
      | ⟨0, _⟩ => show 128 - w + c + 1 * k.val = 127 - (w - 1 - (c + k.val)); omega
      | ⟨1, _⟩ => show 0 + 1 * s.val = s.val; omega
      | ⟨2, _⟩ => show w + 1 * i.val = w - 1 - (c + k.val) + (i.val + (c + k.val) + 1); omega

/-- A row that holds the spans of width `w`, written into the charts that hold the widths below. -/
theorem Holds.next {w : ℕ} {p : Cells Ideal × Cells Ideal} (hp : Holds d w p) (hw : w < 128) (y : FVec Ideal (Row (128 - w)) .f32)
    (hy : ∀ s i, y (ix2 s i) = trees (own d s) w i.val) : Holds d (w + 1) (overA p.1 w y, overB p.2 w y) := fun v i s hv h => by
  by_cases e : v = w
  · subst e
    refine ⟨?_, ?_⟩
    · refine Eq.trans ?_ (hy s ⟨i, by omega⟩)
      refine (congrArg (overA p.1 v y) ?_).trans (over_hit p.1 v 0 (by omega) y s ⟨i, by omega⟩ (by show 0 + i < 128; omega))
      exact congrArg (ix3 _ s) (Fin.ext (Nat.zero_add i).symm)
    · exact (over_hit p.2 (127 - v) v (by omega) y s ⟨i, by omega⟩ h).trans (hy s ⟨i, by omega⟩)
  · have := hp v i s (by omega) h
    refine ⟨(over_miss p.1 w 0 _ ⟨v, by omega⟩ s ⟨i, by omega⟩ e).trans this.1, (over_miss p.2 (127 - w) w _ ⟨127 - v, by omega⟩ s ⟨v + i, h⟩ (by show 127 - v ≠ 127 - w; omega)).trans this.2⟩

include hd in
/-- After width `k` the charts hold every span of the widths up to `k`. -/
theorem charts_holds : ∀ (k : ℕ) (hk : k ≤ 127), Holds d (k + 1) (charts d k hk)
  | 0, hk => Holds.next (p := (blank, blank)) (fun _ _ _ h => absurd h (Nat.not_lt_zero _)) (by omega) _ fun s i => by
      rw [trees]
      unfold own
      have hi : i.val < 128 := i.isLt
      rw [dif_pos (by omega)]
      exact diag_apply (n := 128) (d 0 (by omega)) s i
  | k + 1, hk => Holds.next (charts_holds k (by omega)) (by omega) _ fun s i => rowV_apply hd (charts_holds k (by omega)) (by omega) (by omega) s i

end Chart

end
-- ==== Proof.Answers.lean ====
/- The kernel's answers over the extended reals: each sentence's is the score of all the trees over its whole length. -/
module

public import proofs.«01_k».proof.Proof.Fill

@[expose] public section

noncomputable section

namespace Chart

open Idealize.ShloMosaic LogSum

theorem word_zero : (Scalar.ofBits .f32 0x00000000#32 : Ideal .f32) = 0 := Ideal.ofBits_zero_f32

/-- The answer at position zero: the first chart's row of the sentence's length less one. -/
theorem chosen_apply (l : Vec Ideal ⟨2, ![1, 16]⟩ .i32) (a : Cells Ideal) (s : Fin 16) :
    chosen l a (ix2 s (0 : Fin 128)) = ∑ k : Fin 128, if BitVec.ofNat 32 k.val = l (ix2 0 s) - 1#32 then a (ix3 k s 0) else 0 := by
  refine (Ideal.multiReduction_add_single _ _ (box_reduces 128 128) _ _ _).trans (Finset.sum_congr rfl fun k _ => ?_)
  have e : (box_reduces 128 128).lift (ix2 s (0 : Fin 128)) k = ix3 k s (0 : Fin 128) := funext fun a => by
    match a with
    | ⟨0, _⟩ => rfl
    | ⟨1, _⟩ => rfl
    | ⟨2, _⟩ => rfl
  rw [e]
  simp only [pointwise]
  simp only [List.foldl_cons, List.foldl_nil]
  show Scalar.select (IntOp.andi (IntOp.cmpi .eq (BitVec.ofNat 32 (0 * 128 + k.val)) (l (ix2 0 s) - 1#32))
    (IntOp.cmpi .eq (BitVec.ofNat 32 (0 * 128 + 0)) 0#32)) (a (ix3 k s 0)) 0 = _
  rw [zero_mul, zero_add]
  by_cases h : BitVec.ofNat 32 k.val = l (ix2 0 s) - 1#32
  · rw [if_pos h, h]
    simp [Scalar.select, IntOp.andi, IntOp.cmpi]
  · rw [if_neg h]
    have hb : (BitVec.ofNat 32 k.val == l (ix2 0 s) - 1#32) = false := beq_eq_false_iff_ne.mpr h
    simp [Scalar.select, IntOp.andi, IntOp.cmpi, hb]

/-- A sentence's answer: the score of all the trees over its whole length. -/
theorem answers_apply {d : Scores Ideal} (hd : ∀ s v i, own d s v i < ⊤) (l : Vec Ideal ⟨2, ![1, 16]⟩ .i32) (s : Fin 16)
    (h1 : 1 ≤ (l (ix2 0 s)).toNat) (h2 : (l (ix2 0 s)).toNat ≤ 128) :
    answers d l (ix2 s (0 : Fin 128)) = trees (own d s) ((l (ix2 0 s)).toNat - 1) 0 := by
  unfold answers
  rw [chosen_apply, Finset.sum_eq_single (⟨(l (ix2 0 s)).toNat - 1, by omega⟩ : Fin 128)]
  · rw [if_pos (BitVec.eq_of_toNat_eq (by simp [BitVec.toNat_sub]; omega))]
    exact (charts_holds hd 127 le_rfl ((l (ix2 0 s)).toNat - 1) 0 s (by omega) (by omega)).1
  · intro k _ hk
    rw [if_neg]
    intro e
    apply hk
    have := congrArg BitVec.toNat e
    simp [BitVec.toNat_sub] at this
    exact Fin.ext (by show k.val = (l (ix2 0 s)).toNat - 1; omega)
  · exact fun h => absurd (Finset.mem_univ _) h

end Chart

end
-- ==== Proof.Shear.lean ====
/- The shear over the extended reals: a block of emissions, its labels summed and its rows turned bit by bit, holds at width `w`
   and start `i` the score of the span from `i` to `i + w`. -/
module

public import proofs.«01_k».proof.Proof.Lay
public import proofs.«01_k».proof.Proof.LogSum
public import Idealize.ShloMosaic.Lib.Pointwise

@[expose] public section

noncomputable section

namespace Chart

open Idealize.ShloMosaic LogSum

/-- The bit that a turn tests. -/
theorem bit_test : ∀ (i : Fin 64) (b : Fin 6),
    (IntOp.cmpi .eq (IntOp.andi (IntOp.shrsi .vector (BitVec.ofNat 32 i.val) (BitVec.ofNat 32 b.val)) 1#32) 1#32 = 1)
      ↔ i.val / 2 ^ b.val % 2 = 1 := by decide +kernel

/-- One turn: the row goes left by `r` where its number has the bit. -/
theorem turn_apply {F : FTy → Type} [FloatOps F] (n m r b : ℕ) (hb : b < 6) (hr : r = 2 ^ b) (hn : m + r = n) (x : FVec F (Table n) .f32)
    (hi : (Table n).Iotas .tc 32 [0]) (hm : (Table n).Slices ![0, r] (Table m)) (hr' : (Table n).Slices ![0, 0] (Table r))
    (hc : Shape.Concatenates [Table m, Table r] (Table n) 1) (i : Fin 64) (j : Fin n) :
    turn n m r b x hi hm hr' hc (ix2 i j) = x (ix2 i ⟨(j.val + i.val / 2 ^ b % 2 * 2 ^ b) % n, Nat.mod_lt _ j.pos⟩) := by
  have hj := j.isLt
  have ht := bit_test i ⟨b, hb⟩
  show (if IntOp.cmpi .eq (IntOp.andi (IntOp.shrsi .vector (iota .tc (Table n) 32 [0] hi (ix2 i j)) (BitVec.ofNat 32 b)) 1#32) 1#32 = 1 then _ else _) = _
  rw [iota_single_apply]
  by_cases h : i.val / 2 ^ b % 2 = 1
  · refine (if_pos (ht.mpr h)).trans ?_
    have hz : (j.val + i.val / 2 ^ b % 2 * 2 ^ b) % n = (j.val + r) % n := by rw [h, one_mul, ← hr]
    by_cases hlt : j.val < m
    · rw [concatenate_pair_apply_left (t := Table n) 1 _ _ hc (ix2 i j) rfl (ix2 i ⟨j.val, hlt⟩) (fun a => by
        match a with
        | ⟨0, _⟩ => rfl
        | ⟨1, _⟩ => rfl)]
      refine congrArg x (funext fun a => Fin.ext ?_)
      match a with
      | ⟨0, _⟩ => exact Nat.zero_add _
      | ⟨1, _⟩ =>
        refine Eq.trans ?_ hz.symm
        show r + j.val = (j.val + r) % n
        rw [Nat.mod_eq_of_lt (by omega)]; omega
    · rw [concatenate_pair_apply_right (t := Table n) 1 _ _ hc (ix2 i j) rfl rfl (ix2 i ⟨j.val - m, by omega⟩) (fun a ha => by
        match a with
        | ⟨0, _⟩ => rfl
        | ⟨1, _⟩ => exact absurd rfl ha) (by show j.val - m + m = j.val; omega)]
      refine congrArg x (funext fun a => Fin.ext ?_)
      match a with
      | ⟨0, _⟩ => exact Nat.zero_add _
      | ⟨1, _⟩ =>
        refine Eq.trans ?_ hz.symm
        show 0 + (j.val - m) = (j.val + r) % n
        rw [show j.val + r = (j.val - m) + n by omega, Nat.add_mod_right, Nat.mod_eq_of_lt (by omega)]; omega
  · refine (if_neg (fun e => h (ht.mp e))).trans ?_
    have h0 : i.val / 2 ^ b % 2 = 0 := by omega
    refine congrArg x (funext fun a => Fin.ext ?_)
    match a with
    | ⟨0, _⟩ => rfl
    | ⟨1, _⟩ =>
      show j.val = (j.val + i.val / 2 ^ b % 2 * 2 ^ b) % n
      rw [h0, zero_mul, add_zero, Nat.mod_eq_of_lt hj]

/-- The turns add up to the row's number, where nothing wraps around. -/
theorem turns_add (n j i : ℕ) (hi : i < 64) (h : j + i < n) :
    ((((((j + i / 2 ^ 5 % 2 * 2 ^ 5) % n + i / 2 ^ 4 % 2 * 2 ^ 4) % n + i / 2 ^ 3 % 2 * 2 ^ 3) % n
      + i / 2 ^ 2 % 2 * 2 ^ 2) % n + i / 2 ^ 1 % 2 * 2 ^ 1) % n + i / 2 ^ 0 % 2 * 2 ^ 0) % n = j + i := by
  have hd : i / 2 ^ 5 % 2 * 2 ^ 5 + i / 2 ^ 4 % 2 * 2 ^ 4 + i / 2 ^ 3 % 2 * 2 ^ 3 + i / 2 ^ 2 % 2 * 2 ^ 2 + i / 2 ^ 1 % 2 * 2 ^ 1
      + i / 2 ^ 0 % 2 * 2 ^ 0 = i := by
    have : ∀ i : Fin 64, i.val / 2 ^ 5 % 2 * 2 ^ 5 + i.val / 2 ^ 4 % 2 * 2 ^ 4 + i.val / 2 ^ 3 % 2 * 2 ^ 3 + i.val / 2 ^ 2 % 2 * 2 ^ 2
      + i.val / 2 ^ 1 % 2 * 2 ^ 1 + i.val / 2 ^ 0 % 2 * 2 ^ 0 = i.val := by decide +kernel
    exact this ⟨i, hi⟩
  generalize i / 2 ^ 5 % 2 * 2 ^ 5 = x5 at *
  generalize i / 2 ^ 4 % 2 * 2 ^ 4 = x4 at *
  generalize i / 2 ^ 3 % 2 * 2 ^ 3 = x3 at *
  generalize i / 2 ^ 2 % 2 * 2 ^ 2 = x2 at *
  generalize i / 2 ^ 1 % 2 * 2 ^ 1 = x1 at *
  generalize i / 2 ^ 0 % 2 * 2 ^ 0 = x0 at *
  rw [Nat.mod_eq_of_lt (show j + x5 < n by omega), Nat.mod_eq_of_lt (show j + x5 + x4 < n by omega),
    Nat.mod_eq_of_lt (show j + x5 + x4 + x3 < n by omega), Nat.mod_eq_of_lt (show j + x5 + x4 + x3 + x2 < n by omega),
    Nat.mod_eq_of_lt (show j + x5 + x4 + x3 + x2 + x1 < n by omega), Nat.mod_eq_of_lt (show j + x5 + x4 + x3 + x2 + x1 + x0 < n by omega)]
  omega

/-- All six turns of a table of one hundred and twenty-eight ends. -/
theorem shearW_apply {F : FTy → Type} [FloatOps F] (x : FVec F (Table 128) .f32) (i : Fin 64) (j : Fin 128) (h : j.val + i.val < 128) :
    shearW x (ix2 i j) = x (ix2 i ⟨j.val + i.val, h⟩) := by
  unfold shearW
  rw [turn_apply 128 96 32 5 (by decide) (by decide) (by decide),
    turn_apply 128 112 16 4 (by decide) (by decide) (by decide),
    turn_apply 128 120 8 3 (by decide) (by decide) (by decide),
    turn_apply 128 124 4 2 (by decide) (by decide) (by decide),
    turn_apply 128 126 2 1 (by decide) (by decide) (by decide),
    turn_apply 128 127 1 0 (by decide) (by decide) (by decide)]
  exact congrArg (fun k => x (ix2 i k)) (Fin.ext (turns_add _ j.val i.val i.isLt h))

/-- And of a table of sixty-four. -/
theorem shearH_apply {F : FTy → Type} [FloatOps F] (x : FVec F (Table 64) .f32) (i j : Fin 64) (h : j.val + i.val < 64) :
    shearH x (ix2 i j) = x (ix2 i ⟨j.val + i.val, h⟩) := by
  unfold shearH
  rw [turn_apply 64 32 32 5 (by decide) (by decide) (by decide),
    turn_apply 64 48 16 4 (by decide) (by decide) (by decide),
    turn_apply 64 56 8 3 (by decide) (by decide) (by decide),
    turn_apply 64 60 4 2 (by decide) (by decide) (by decide),
    turn_apply 64 62 2 1 (by decide) (by decide) (by decide),
    turn_apply 64 63 1 0 (by decide) (by decide) (by decide)]
  exact congrArg (fun k => x (ix2 i k)) (Fin.ext (turns_add _ j.val i.val i.isLt h))

/-- A score of a block: the logarithm of the summed exponentials over the labels. -/
theorem score_apply (n : ℕ) (e : FVec Ideal ⟨3, ![64, n, 128]⟩ .f32) (h : (⟨3, ![64, n, 128]⟩ : Shape).Reduces [2] (Table n))
    (i : Fin 64) (j : Fin n) : score n e h (ix2 i j) = Ideal.log (∑ k : Fin 128, Ideal.exp (e (ix3 i j k))) := by
  refine congrArg Ideal.log ((Ideal.multiReduction_add_single _ _ h _ _ _).trans (Finset.sum_congr rfl fun k _ => ?_))
  refine congrArg (fun y => Ideal.exp (e y)) (funext fun a => ?_)
  match a with
  | ⟨0, _⟩ => rfl
  | ⟨1, _⟩ => rfl
  | ⟨2, _⟩ => rfl

/-- A transposed table, read. -/
theorem swap_apply {n m : ℕ} {α : Type} (x : (⟨2, ![n, m]⟩ : Shape).Idx → α) (h : (⟨2, ![n, m]⟩ : Shape).Transposes [1, 0] ⟨2, ![m, n]⟩)
    (i : Fin n) (j : Fin m) : transpose ⟨2, ![m, n]⟩ [1, 0] x h (ix2 j i) = x (ix2 i j) := by
  refine transpose_apply [1, 0] x h (ix2 j i) (ix2 i j) fun b => ?_
  match b with
  | ⟨0, _⟩ => rfl
  | ⟨1, _⟩ => rfl

/-- The first band at width `w` and start `i`. -/
theorem bandW_apply (e : Vec Ideal ⟨4, ![1, 64, 128, 128]⟩ .f32) (w : Fin 128) (i : Fin 64) (h : w.val + i.val < 128) :
    bandW e (ix3 0 w i) = Ideal.log (∑ k : Fin 128, Ideal.exp (e (ix4 0 i ⟨w.val + i.val, h⟩ k))) := by
  unfold bandW
  rw [shapeCast_addUnit_apply ![128, 64]]
  rw [show (fun a : Fin 2 => (ix3 (0 : Fin 1) w i : (⟨3, ![1, 128, 64]⟩ : Shape).Idx) a.succ) = ix2 w i from funext fun a => by
    match a with
    | ⟨0, _⟩ => rfl
    | ⟨1, _⟩ => rfl]
  rw [swap_apply, shearW_apply (F := Ideal) _ i w h, score_apply]
  refine congrArg Ideal.log (Finset.sum_congr rfl fun k _ => congrArg Ideal.exp ?_)
  rw [shapeCast_dropUnit_apply ![64, 128, 128]]
  refine congrArg e (funext fun a => ?_)
  match a with
  | ⟨0, _⟩ => rfl
  | ⟨1, _⟩ => rfl
  | ⟨2, _⟩ => rfl
  | ⟨3, _⟩ => rfl

/-- The second band. -/
theorem bandH_apply (e : Vec Ideal ⟨4, ![1, 64, 64, 128]⟩ .f32) (w i : Fin 64) (h : w.val + i.val < 64) :
    bandH e (ix3 0 w i) = Ideal.log (∑ k : Fin 128, Ideal.exp (e (ix4 0 i ⟨w.val + i.val, h⟩ k))) := by
  unfold bandH
  rw [shapeCast_addUnit_apply ![64, 64]]
  rw [show (fun a : Fin 2 => (ix3 (0 : Fin 1) w i : (⟨3, ![1, 64, 64]⟩ : Shape).Idx) a.succ) = ix2 w i from funext fun a => by
    match a with
    | ⟨0, _⟩ => rfl
    | ⟨1, _⟩ => rfl]
  rw [swap_apply, shearH_apply (F := Ideal) _ i w h, score_apply]
  refine congrArg Ideal.log (Finset.sum_congr rfl fun k _ => congrArg Ideal.exp ?_)
  rw [shapeCast_dropUnit_apply ![64, 64, 128]]
  refine congrArg e (funext fun a => ?_)
  match a with
  | ⟨0, _⟩ => rfl
  | ⟨1, _⟩ => rfl
  | ⟨2, _⟩ => rfl
  | ⟨3, _⟩ => rfl

end Chart

end
-- ==== Proof.Span.lean ====
/- A span's own score: the logarithm of the sum of the exponentials of its labels' emissions. -/
module

public import proofs.«01_k».proof.Proof.LogSum
public import Idealize.ShloMosaic.Lib.Pointwise

@[expose] public section

noncomputable section

namespace LogSum

open Idealize.ShloMosaic

/-- The score of the span of width `w` that begins at `i`, of sentence `s`; minus infinity where there is no span. -/
def span (x : Vec Ideal ⟨4, ![16, 128, 128, 128]⟩ .f32) (s : Fin 16) (w i : ℕ) : EReal :=
  if h : w + i < 128 then Ideal.log (∑ k : Fin 128, Ideal.exp (x (ix4 s (⟨i, by omega⟩ : Fin 128) (⟨w + i, h⟩ : Fin 128) k))) else ⊥

theorem span_lt {x : Vec Ideal ⟨4, ![16, 128, 128, 128]⟩ .f32} (hx : ∀ y, x y < (⊤ : EReal)) (s : Fin 16) (w i : ℕ) : span x s w i < ⊤ := by
  unfold span
  split
  · rw [log_sum fun k => hx _]; exact log_lt _
  · exact bot_lt_top

end LogSum

end
-- ==== Proof.ValueI.lean ====
/- The kernel's result over the extended reals: each sentence's entry is the score of all the trees over its whole length. -/
module

public import proofs.«01_k».proof.Proof.FrameI
public import proofs.«01_k».proof.Proof.Answers
public import proofs.«01_k».proof.Proof.Shear
public import proofs.«01_k».proof.Proof.Span
public import Idealize.ShloMosaic.Lib.Pipeline.Value
public import Idealize.ShloMosaic.Lib.StableHlo.Run
public import Idealize.ShloMosaic.Lib.Tactic

@[expose] public section

noncomputable section

namespace Cert.KernelIdeal.Gen

open Idealize.ShloMosaic Idealize.ShloMosaic.TcCoe Idealize.SL.Sem LogSum
open Idealize.ShloMosaic.Pipeline (Dat)

variable (m : (ℓ : Loc nD τ sig) → Buf (Elt Ideal) ℓ) (ρ : Dev nD → PrngReg)

/-- The emissions and the lengths of a launch. -/
abbrev emissions (c : Dev nD) : Vec Ideal ⟨4, ![16, 128, 128, 128]⟩ .f32 := m ((c : Thread nD τ).loc main_arg0)
abbrev sizes (c : Dev nD) : Vec Ideal ⟨1, ![16]⟩ .i32 := m ((c : Thread nD τ).loc main_arg1)

/-! ## Where the blocks lie -/

theorem index_top : ∀ t : Fin cfg0.N, win0_0.index t (0 : Fin 4) = t.val ∧ win0_0.index t (1 : Fin 4) = 0
    ∧ win0_0.index t (2 : Fin 4) = 0 ∧ win0_0.index t (3 : Fin 4) = 0 := (by decide +kernel : ∀ t : Fin grid0.N, _)
theorem index_bottom : ∀ t : Fin cfg0.N, win0_1.index t (0 : Fin 4) = t.val ∧ win0_1.index t (1 : Fin 4) = 1
    ∧ win0_1.index t (2 : Fin 4) = 1 ∧ win0_1.index t (3 : Fin 4) = 0 := (by decide +kernel : ∀ t : Fin grid0.N, _)
theorem index_lengths : ∀ t : Fin cfg0.N, win0_2.index t (0 : Fin 2) = 0 ∧ win0_2.index t (1 : Fin 2) = 0 :=
  (by decide +kernel : ∀ t : Fin grid0.N, _)
theorem index_out : ∀ t : Fin cfg0.N, win0_3.index t (0 : Fin 2) = 0 ∧ win0_3.index t (1 : Fin 2) = 0 :=
  (by decide +kernel : ∀ t : Fin grid0.N, _)

/-- A sentence's first block is its first 64 rows. -/
theorem tops_apply (c : Dev nD) (b : Fin 16) (i : Fin 64) (j k : Fin 128) :
    tops m c b (ix4 0 i j k) = emissions m c (ix4 b (⟨i.val, by omega⟩ : Fin 128) j k) := by
  obtain ⟨e0, e1, e2, e3⟩ := index_top (b.cast N_0.symm)
  show V m c main_arg0 (((cfg0.win 0).blk (b.cast N_0.symm)).view.emb (ix4 0 i j k)) = _
  rw [V_main_arg0]
  refine congrArg (emissions m c) (funext fun a => Fin.ext ?_)
  match a with
  | ⟨0, _⟩ => show win0_0.index (b.cast N_0.symm) (0 : Fin 4) * 1 + 1 * 0 = b.val; rw [e0]; show b.val * 1 + 1 * 0 = b.val; omega
  | ⟨1, _⟩ => show win0_0.index (b.cast N_0.symm) (1 : Fin 4) * 64 + 1 * i.val = i.val; omega
  | ⟨2, _⟩ => show win0_0.index (b.cast N_0.symm) (2 : Fin 4) * 128 + 1 * j.val = j.val; omega
  | ⟨3, _⟩ => show win0_0.index (b.cast N_0.symm) (3 : Fin 4) * 128 + 1 * k.val = k.val; omega

/-- Its second is the square of the later 64. -/
theorem bottoms_apply (c : Dev nD) (b : Fin 16) (i j : Fin 64) (k : Fin 128) :
    bottoms m c b (ix4 0 i j k) = emissions m c (ix4 b (⟨64 + i.val, by omega⟩ : Fin 128) (⟨64 + j.val, by omega⟩ : Fin 128) k) := by
  obtain ⟨e0, e1, e2, e3⟩ := index_bottom (b.cast N_0.symm)
  show V m c main_arg0 (((cfg0.win 1).blk (b.cast N_0.symm)).view.emb (ix4 0 i j k)) = _
  rw [V_main_arg0]
  refine congrArg (emissions m c) (funext fun a => Fin.ext ?_)
  match a with
  | ⟨0, _⟩ => show win0_1.index (b.cast N_0.symm) (0 : Fin 4) * 1 + 1 * 0 = b.val; rw [e0]; show b.val * 1 + 1 * 0 = b.val; omega
  | ⟨1, _⟩ => show win0_1.index (b.cast N_0.symm) (1 : Fin 4) * 64 + 1 * i.val = 64 + i.val; omega
  | ⟨2, _⟩ => show win0_1.index (b.cast N_0.symm) (2 : Fin 4) * 64 + 1 * j.val = 64 + j.val; omega
  | ⟨3, _⟩ => show win0_1.index (b.cast N_0.symm) (3 : Fin 4) * 128 + 1 * k.val = k.val; omega

/-- The scores the kernel lays out are the spans' own. -/
theorem own_eq (c : Dev nD) (s : Fin 16) : Chart.own (Chart.scores (tops m c) (bottoms m c)) s = span (emissions m c) s := by
  funext w i
  unfold Chart.own span
  by_cases h : w + i < 128
  · rw [dif_pos h, dif_pos h]
    show Chart.cell (tops m c s) (bottoms m c s) ⟨w, _⟩ ⟨i, _⟩ _ = _
    unfold Chart.cell
    by_cases hi : i < 64
    · rw [dif_pos (show (⟨i, by omega⟩ : Fin 128).val < 64 from hi), Chart.bandW_apply _ _ _ h]
      refine congrArg Ideal.log (Finset.sum_congr rfl fun k _ => congrArg Ideal.exp ?_)
      exact tops_apply m c s _ _ k
    · rw [dif_neg (show ¬ (⟨i, by omega⟩ : Fin 128).val < 64 from hi), Chart.bandH_apply _ _ _ (by show w + (i - 64) < 64; omega)]
      refine congrArg Ideal.log (Finset.sum_congr rfl fun k _ => congrArg Ideal.exp ?_)
      refine (bottoms_apply m c s _ _ k).trans (congrArg (emissions m c) (funext fun a => Fin.ext ?_))
      match a with
      | ⟨0, _⟩ => rfl
      | ⟨1, _⟩ => show 64 + (i - 64) = i; omega
      | ⟨2, _⟩ => show 64 + (w + (i - 64)) = w + i; omega
      | ⟨3, _⟩ => rfl
  · rw [dif_neg h, dif_neg h]

/-- The lengths the kernel is handed are the launch's, in one row. -/
theorem lengths_apply (c : Dev nD) (t : Fin cfg0.N) (s : Fin 16) : iblk m c 2 t (ix2 0 s) = sizes m c (ix1 s) := by
  obtain ⟨e0, e1⟩ := index_lengths t
  show V m c main_v0 (((cfg0.win 2).blk t).view.emb (ix2 0 s)) = _
  rw [show ((cfg0.win 2).blk t).view.emb (ix2 0 s) = (ix2 0 s : (⟨2, ![1, 16]⟩ : Shape).Idx) from funext fun a => Fin.ext (by
    match a with
    | ⟨0, _⟩ => show win0_2.index t (0 : Fin 2) * 1 + 1 * 0 = 0; omega
    | ⟨1, _⟩ => show win0_2.index t (1 : Fin 2) * 16 + 1 * s.val = s.val; omega)]
  have e : V m c main_v0 = shapeCast ⟨2, ![1, 16]⟩ (sizes m c) shapeCasts_S16_S1x16 := by
    show StableHlo.after hostOps0 (V0 m c) (Proc.devRef .tc main_v0) = _
    after_results
    rfl
  rw [e]
  refine shapeCast_apply (sizes m c) shapeCasts_S16_S1x16 (ix2 0 s) (ix1 s) ?_
  rw [rowMajor_val2 _ 16 rfl, rowMajor_val1]
  show s.val = 0 * 16 + s.val
  omega

/-! ## The array the answers are written to -/

/-- The last point. -/
abbrev last : Fin cfg0.N := (15 : Fin 16).cast N_0.symm

theorem emb_out (t : Fin cfg0.N) (j : (⟨2, ![16, 128]⟩ : Shape).Idx) : ((cfg0.win 3).blk t).view.emb j = j := by
  obtain ⟨e0, e1⟩ := index_out t
  funext a; apply Fin.ext
  match a with
  | ⟨0, _⟩ => show win0_3.index t (0 : Fin 2) * 16 + 1 * (j 0).val = (j 0).val; omega
  | ⟨1, _⟩ => show win0_3.index t (1 : Fin 2) * 128 + 1 * (j 1).val = (j 1).val; omega

theorem flush_out (t : Fin cfg0.N) (h : (cfg0.win 3).flush t = true) : t = last := by
  have h1 := (flush0_3 t).mp h
  have h2 : t.val < 16 := lt_of_lt_of_eq t.isLt N_0
  exact Fin.ext (by show t.val = 15; omega)

/-- After the last point it holds what that point wrote. -/
theorem final (c : Dev nD) : (dats m 0 c).arrAt 3 cfg0.N = result m c last :=
  (dats m 0 c).arrAt_eq_of_cover 3 (result m c last) (fun t h => by
      obtain rfl := flush_out t h
      funext j
      show (dats m 0 c).after 3 last j = result m c last (((cfg0.win 3).blk last).view.emb j)
      rw [emb_out, after_out])
    fun i => ⟨last, (flush0_3 last).mpr (by decide), by
      have h := ((cfg0.win 3).blk last).view.emb_mem_set i; rwa [emb_out] at h⟩

/-! ## The result -/

/-- The kernel's result: the scores of the trees over the whole sentences. -/
def totals (c : Dev nD) : Vec Ideal ⟨1, ![16]⟩ .f32 := fun y =>
  trees (span (emissions m c) (y 0)) ((sizes m c y).toNat - 1) 0

theorem tail_eq (c : Dev nD) : Pipeline.afterTail₀ cfgs (dats m) 0 (V0 m) [hostOps1] c main_v3
    = shapeCast ⟨1, ![16]⟩ (extractStridedSlice S16x1 ![0, 0] (result m c last) slices_S16x128_S16x1_0_0) shapeCasts_S16x1_S16 := by
  rw [← final]
  show StableHlo.after hostOps1 (Pipeline.withArrays spec0 c (V0 m c) fun w => (dats m 0 c).arrAt w cfg0.N) (Proc.devRef .tc main_v3) = _
  after_results
  have e : Pipeline.withArrays spec0 c (V0 m c) (fun w => (dats m 0 c).arrAt w cfg0.N) (Proc.devRef .tc main_v1) = (dats m 0 c).arrAt 3 cfg0.N :=
    (dats m 0 c).withArrays_arrAt sharedIn0 (V0 m c) (A_eq m c) 3
  rw [e]
  rfl

theorem tail_totals (c : Dev nD) (hx : ∀ y, emissions m c y < (⊤ : EReal))
    (hl : ∀ y, 1 ≤ (sizes m c y).toNat ∧ (sizes m c y).toNat ≤ 128) :
    Pipeline.afterTail₀ cfgs (dats m) 0 (V0 m) [hostOps1] c main_v3 = totals m c := by
  rw [tail_eq]
  funext y
  obtain ⟨s, rfl⟩ : ∃ s : Fin 16, y = ix1 s := ⟨y 0, funext fun a => by match a with | ⟨0, _⟩ => rfl⟩
  refine (shapeCast_apply _ shapeCasts_S16x1_S16 (ix1 s) (ix2 s 0) ?_).trans ?_
  · rw [rowMajor_val2 _ 1 rfl, rowMajor_val1]
    show s.val * 1 + 0 = s.val
    omega
  refine (congrArg (result m c last) (show _ = ix2 s (0 : Fin 128) from funext fun a => Fin.ext (by
    match a with
    | ⟨0, _⟩ => show 0 + s.val = s.val; omega
    | ⟨1, _⟩ => rfl))).trans ?_
  show Chart.answers (Chart.scores (tops m c) (bottoms m c)) (iblk m c 2 last) (ix2 s (0 : Fin 128)) = _
  rw [Chart.answers_apply (fun s v i => by rw [own_eq]; exact span_lt hx s v i) _ s
    (by rw [lengths_apply]; exact (hl _).1) (by rw [lengths_apply]; exact (hl _).2), own_eq, lengths_apply]
  rfl

/-- Every fair execution ends with the result at these totals and the arguments as they were. -/
theorem run_totals (hx : ∀ c y, emissions m c y < (⊤ : EReal))
    (hl : ∀ c y, 1 ≤ (sizes m c y).toNat ∧ (sizes m c y).toNat ≤ 128) :
    θ_run defs (onTc (τ := τ) (main (F := Ideal))) ⟨m, fun _ => 0, ρ⟩ (fun r => ∀ c : Dev nD,
      r.2.mem ((c.tc : Thread nD τ).loc main_v3) = totals m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1.1 c).2 main_v3 (Pipeline.mem_restRefs_of main_v3 (by decide) (by decide))).trans
      (tail_totals m c (hx c) (hl c)), h.2.1 c⟩)
    (θ_run_and (ends m ρ) (quiet m ρ))

end Cert.KernelIdeal.Gen

end
-- ==== Proof.Trip.lean ====
/- One trip of the reference's loop over the extended reals: it fills the chart's entries of one more width. -/
module

public import proofs.«01_k».proof.Proof.Gen.ReferenceIdeal.Run
public import proofs.«01_k».proof.Proof.Span
public import Idealize.ShloMosaic.Lib.Pointwise
public import Idealize.ShloMosaic.Lib.IdealHost

@[expose] public section

noncomputable section

namespace Cert.ReferenceIdeal.Value

open Idealize.ShloMosaic Idealize.ShloMosaic.TcCoe Idealize.ShloMosaic.StableHlo LogSum

/-- What the loop carries before trip `k`: the positions, the spans' scores, the width it is at, and the chart with every
    entry narrower than that filled. -/
structure At (x : Vec Ideal ⟨4, ![16, 128, 128, 128]⟩ .f32) (k : ℕ) (V : Valuation τ sig (Elt Ideal)) : Prop where
  starts : ∀ y, V (Proc.devRef .tc main_v19_0) y = BitVec.ofNat 32 (y 0).val
  splits : ∀ y, V (Proc.devRef .tc main_v19_1) y = BitVec.ofNat 32 (y 1).val
  stops : ∀ y, V (Proc.devRef .tc main_v19_2) y = BitVec.ofNat 32 (y 2).val
  places : ∀ y, V (Proc.devRef .tc main_v19_4) y = BitVec.ofNat 32 (y 0).val
  width : ∀ y, V (Proc.devRef .tc main_v19_6) y = BitVec.ofNat 32 (k + 1)
  data : ∀ (s : Fin 16) (w i : ℕ) (h : w + i < 128),
    V (Proc.devRef .tc main_v19_3) (ix3 s (⟨i, by omega⟩ : Fin 128) (⟨w + i, h⟩ : Fin 128)) = span x s w i
  chart : ∀ (s : Fin 16) (w i : ℕ) (h : w + i < 128), w ≤ k →
    V (Proc.devRef .tc main_v19_7) (ix3 s (⟨i, by omega⟩ : Fin 128) (⟨w + i, h⟩ : Fin 128)) = trees (span x s) w i

variable {x : Vec Ideal ⟨4, ![16, 128, 128, 128]⟩ .f32} {k : ℕ} {V : Valuation τ sig (Elt Ideal)}

/-! ## Words -/

theorem int_small {n : ℕ} (h : n < 128) : (BitVec.ofNat 32 n).toInt = n := by
  rw [BitVec.toInt_eq_toNat_of_lt (by simp; omega)]
  simp; omega

theorem le_small {a b : ℕ} (ha : a < 128) (hb : b < 128) :
    IntOp.cmpi .sle (BitVec.ofNat 32 a) (BitVec.ofNat 32 b) = if a ≤ b then 1#1 else 0#1 := by
  simp only [IntOp.cmpi, BitVec.sle_eq_decide, int_small ha, int_small hb, Nat.cast_le]
  by_cases h : a ≤ b
  · simp [h]
  · rw [if_neg h, decide_eq_false h]; rfl

theorem lt_small {a b : ℕ} (ha : a < 128) (hb : b < 128) :
    IntOp.cmpi .slt (BitVec.ofNat 32 a) (BitVec.ofNat 32 b) = if a < b then 1#1 else 0#1 := by
  simp only [IntOp.cmpi, BitVec.slt_eq_decide, int_small ha, int_small hb, Nat.cast_lt]
  by_cases h : a < b
  · simp [h]
  · rw [if_neg h, decide_eq_false h]; rfl

/-- The distance of two positions tested against a width. -/
theorem apart {v i w : ℕ} (h : v + i < 128) (hw : w ≤ 127) :
    IntOp.cmpi .eq (BitVec.ofNat 32 (v + i) - BitVec.ofNat 32 i) (BitVec.ofNat 32 w) = if v = w then 1#1 else 0#1 := by
  have e : BitVec.ofNat 32 (v + i) - BitVec.ofNat 32 i = BitVec.ofNat 32 v := by
    apply BitVec.eq_of_toNat_eq
    simp [BitVec.toNat_sub]
    omega
  rw [e]
  by_cases hv : v = w
  · rw [if_pos hv, hv]; simp [IntOp.cmpi]
  · have hb : (BitVec.ofNat 32 v == BitVec.ofNat 32 w) = false := beq_eq_false_iff_ne.mpr fun e => hv (by
      have := congrArg BitVec.toNat e
      simp at this
      omega)
    rw [if_neg hv]; simp [IntOp.cmpi, hb]

theorem pick_first {α : Type} (p q : α) : Scalar.select 1#1 p q = p := rfl
theorem pick_second {α : Type} (p q : α) : Scalar.select 0#1 p q = q := rfl

theorem minus_infinity : (FloatOps.ofBits .f32 0xFF800000#32 : Ideal .f32) = ⊥ := by
  show Ideal.ofBits .f32 0xFF800000#32 = ⊥
  simp [Ideal.ofBits, Ideal.ieee]

/-! ## The reference's sum of exponentials along an axis -/

open Cert.ReferenceIdeal in
theorem log_sum_host {a : Fin 4} (h' : S16x128x128x128.ReducesTo [a] S16x128x128) (h : S16x128x128x128.Reduces [a] S16x128x128)
    (hu : 0 < S_.numel) (t X : FVec Ideal S16x128x128x128 .f32) (j : S16x128x128.Idx)
    (hX : ∀ k, X (h.lift j k) = Host.reduce FloatOps.maximumf t (constant S_ .f32 0xFF800000#32) h' hu j)
    (ht : ∀ k, t (h.lift j k) < (⊤ : EReal)) :
    addf (Host.log (Host.reduceAdd (Host.exp (subf t X)) (constant S_ .f32 0x00000000#32) h' hu))
        (Host.reduce FloatOps.maximumf t (constant S_ .f32 0xFF800000#32) h' hu) j
      = Ideal.log ((∑ k, ex (t (h.lift j k)) : ℝ) : EReal) := by
  have em : Host.reduce FloatOps.maximumf t (constant S_ .f32 0xFF800000#32) h' hu j
      = (Finset.univ : Finset (Fin (S16x128x128x128.size a))).fold max (⊥ : EReal) (fun k => t (h.lift j k)) := by
    refine (Host.reduce_eq_fold_single FloatOps.maximumf t _ h' h hu j).trans ?_
    show (Finset.univ : Finset (Fin (S16x128x128x128.size a))).fold max (FloatOps.ofBits .f32 0xFF800000#32 : Ideal .f32) _ = _
    rw [minus_infinity]
    rfl
  have es : Host.reduceAdd (Host.exp (subf t X)) (constant S_ .f32 0x00000000#32) h' hu j
      = ∑ k, Ideal.exp (t (h.lift j k) - (Finset.univ : Finset (Fin (S16x128x128x128.size a))).fold max (⊥ : EReal) (fun k => t (h.lift j k))) := by
    refine (Ideal.hostReduceAdd_single h' h _ _ j).trans ?_
    rw [show (constant S_ .f32 0x00000000#32 : FVec Ideal S_ .f32) (Shape.Idx.first hu) = 0 from Ideal.ofBits_zero_f32, zero_add]
    refine Finset.sum_congr rfl fun k _ => ?_
    show Ideal.exp (t (h.lift j k) - X (h.lift j k)) = _
    rw [hX, em]
  show Ideal.log (Host.reduceAdd (Host.exp (subf t X)) (constant S_ .f32 0x00000000#32) h' hu j)
    + Host.reduce FloatOps.maximumf t (constant S_ .f32 0xFF800000#32) h' hu j = _
  rw [es, em]
  exact (Run.group ht).done

/-! ## The splits of one span -/

/-- A split's term: both parts' scores where it cuts the span, minus infinity elsewhere. -/
def part (x : Vec Ideal ⟨4, ![16, 128, 128, 128]⟩ .f32) (b : Fin 16) (w i s : ℕ) : EReal :=
  if i ≤ s ∧ s < w + i then trees (span x b) (s - i) i + trees (span x b) (w - 1 - (s - i)) (s + 1) else ⊥

theorem At.res (hV : At x k V) (b : Fin 16) (i : ℕ) (h : k + 1 + i < 128) (s : Fin 128) :
    res_main_while0b_v58 V (ix4 b (⟨i, by omega⟩ : Fin 128) s (⟨k + 1 + i, h⟩ : Fin 128)) = part x b (k + 1) i s.val := by
  have hs := s.isLt
  have hc : IntOp.andi (IntOp.cmpi .sle (BitVec.ofNat 32 i) (BitVec.ofNat 32 s.val)) (IntOp.cmpi .slt (BitVec.ofNat 32 s.val) (BitVec.ofNat 32 (k + 1 + i)))
      = if i ≤ s.val ∧ s.val < k + 1 + i then 1#1 else 0#1 := by
    rw [le_small (by omega) hs, lt_small hs h]
    by_cases h1 : i ≤ s.val <;> by_cases h2 : s.val < k + 1 + i <;> simp [h1, h2, IntOp.andi]
  unfold res_main_while0b_v58
  simp only [pointwise]
  simp only [hV.starts, hV.splits, hV.stops]
  show Scalar.select (IntOp.andi (IntOp.cmpi .sle (BitVec.ofNat 32 i) (BitVec.ofNat 32 s.val))
    (IntOp.cmpi .slt (BitVec.ofNat 32 s.val) (BitVec.ofNat 32 (k + 1 + i)))) _ (FloatOps.ofBits .f32 0xFF800000#32 : Ideal .f32) = _
  rw [hc, minus_infinity]
  unfold part
  by_cases hp : i ≤ s.val ∧ s.val < k + 1 + i
  · simp only [if_pos hp]
    have e1 := hV.chart b (s.val - i) i (by omega) (by omega)
    have e2 := hV.chart b (k + 1 - 1 - (s.val - i)) (s.val + 1) (by omega) (by omega)
    rw [← e1, ← e2]
    refine (pick_first _ _).trans (congrArg₂ (fun p q : EReal => p + q) (congrArg _ (funext fun a => ?_))
      ((dif_pos (show s.val < 127 by omega)).trans (congrArg _ (funext fun a => ?_))))
    · match a with
      | ⟨0, _⟩ => rfl
      | ⟨1, _⟩ => rfl
      | ⟨2, _⟩ => exact Fin.ext (by show s.val = s.val - i + i; omega)
    · match a with
      | ⟨0, _⟩ => exact Fin.ext (by show 0 + b.val = b.val; omega)
      | ⟨1, _⟩ => exact Fin.ext (by show 1 + s.val = s.val + 1; omega)
      | ⟨2, _⟩ => exact Fin.ext (by show 0 + (k + 1 + i) = k + 1 - 1 - (s.val - i) + (s.val + 1); omega)
  · simp only [if_neg hp]
    exact pick_second _ _

theorem part_lt (hx : ∀ y, x y < (⊤ : EReal)) (b : Fin 16) (w i s : ℕ) : part x b w i s < ⊤ := by
  unfold part
  split
  · exact add_lt (trees_lt (span_lt hx b) _ _) (trees_lt (span_lt hx b) _ _)
  · exact bot_lt_top

/-- All the positions' terms together are the span's splits'. -/
theorem parts_sum (b : Fin 16) (w i : ℕ) (h : w + i < 128) :
    ∑ s : Fin 128, ex (part x b w i s.val)
      = ∑ k ∈ Finset.range w, ex (trees (span x b) k i + trees (span x b) (w - 1 - k) (i + k + 1)) := by
  rw [← Finset.sum_range fun s => ex (part x b w i s)]
  obtain ⟨r, hr⟩ : ∃ r, 128 = i + (w + r) := ⟨128 - i - w, by omega⟩
  rw [hr, Finset.sum_range_add, Finset.sum_range_add, Finset.sum_eq_zero, Finset.sum_eq_zero (s := Finset.range r), zero_add, add_zero]
  · refine Finset.sum_congr rfl fun k hk => ?_
    have hk := Finset.mem_range.mp hk
    unfold part
    rw [if_pos ⟨by omega, by omega⟩, show i + k - i = k by omega]
  · intro s hs
    unfold part
    rw [if_neg (c := i ≤ i + (w + s) ∧ i + (w + s) < w + i) (fun h => by omega), ex_bot]
  · intro s hs
    have hs := Finset.mem_range.mp hs
    unfold part
    rw [if_neg (c := i ≤ s ∧ s < w + i) (fun h => by omega), ex_bot]

/-! ## The trip -/

theorem along_splits : S16x128x128x128.Reduces [2] S16x128x128 := by decide

theorem select_hit {S : Shape} {α : Type} (c : S.Idx → BitVec 1) (p q : S.Idx → α) (y : S.Idx) (h : c y = 1#1) : select c p q y = p y := by
  show Scalar.select (c y) (p y) (q y) = _
  rw [h]; rfl

theorem select_pass {S : Shape} {α : Type} (c : S.Idx → BitVec 1) (p q : S.Idx → α) (y : S.Idx) (h : c y = 0#1) : select c p q y = q y := by
  show Scalar.select (c y) (p y) (q y) = _
  rw [h]; rfl

/-- What was found along the splits, put back beside every split. -/
theorem back_splits (q : FVec Ideal S16x128x128 .f32) (b : Fin 16) (i s j : Fin 128) :
    broadcastInDim S16x128x128x128 ![0, 1, 2, 3] Gen.bcast_S16x128x1x128_S16x128x128x128_0_1_2_3
      (broadcastInDim S16x128x1x128 ![0, 1, 3] Gen.bcast_S16x128x128_S16x128x1x128_0_1_3 q) (ix4 b i s j) = q (ix3 b i j) := by
  simp only [pointwise]
  rfl

/-- The entries a trip fills are those of its width. -/
theorem At.mask (hV : At x k V) (hk : k < 127) (b : Fin 16) (v i : ℕ) (h : v + i < 128) :
    (broadcastInDim S16x128x128 ![1, 2] Gen.bcast_S128x128_S16x128x128_1_2 (cmpi .eq (subi (broadcastInDim S128x128 ![0, 1] Gen.bcast_S1x128_S128x128_0_1 (broadcastInDim S1x128 ![1] Gen.bcast_S128_S1x128_1 (V (Proc.devRef .tc main_v19_4)))) (broadcastInDim S128x128 ![0, 1] Gen.bcast_S128x1_S128x128_0_1 (broadcastInDim S128x1 ![0] Gen.bcast_S128_S128x1_0 (V (Proc.devRef .tc main_v19_4))))) (broadcastInDim S128x128 ![] Gen.bcast_S_S128x128 (id (V (Proc.devRef .tc main_v19_6))))) : S16x128x128.Idx → BitVec 1)
      (ix3 b (⟨i, by omega⟩ : Fin 128) (⟨v + i, h⟩ : Fin 128)) = if v = k + 1 then 1#1 else 0#1 := by
  simp only [pointwise, id]
  simp only [hV.places, hV.width]
  exact apart h (by omega)

/-- The chart after a trip. -/
theorem At.new (hV : At x k V) (hx : ∀ y, x y < (⊤ : EReal)) (hk : k < 127) (b : Fin 16) (v i : ℕ) (h : v + i < 128) (hv : v ≤ k + 1) :
    step_main_v19_7 V (ix3 b (⟨i, by omega⟩ : Fin 128) (⟨v + i, h⟩ : Fin 128)) = trees (span x b) v i := by
  unfold step_main_v19_7
  rw [id]
  have hc := hV.mask hk b v i h
  by_cases e : v = k + 1
  · subst e
    rw [if_pos rfl] at hc
    refine (select_hit _ _ _ _ hc).trans ?_
    have el : ∀ s : Fin 128, along_splits.lift (ix3 b (⟨i, by omega⟩ : Fin 128) (⟨k + 1 + i, h⟩ : Fin 128)) s = ix4 b (⟨i, by omega⟩ : Fin 128) s (⟨k + 1 + i, h⟩ : Fin 128) := fun s => funext fun a => by
      match a with
      | ⟨0, _⟩ => rfl
      | ⟨1, _⟩ => rfl
      | ⟨2, _⟩ => rfl
      | ⟨3, _⟩ => rfl
    have er : ∀ s : Fin 128, res_main_while0b_v58 V (along_splits.lift (ix3 b (⟨i, by omega⟩ : Fin 128) (⟨k + 1 + i, h⟩ : Fin 128)) s) = part x b (k + 1) i s.val := fun s => by
      rw [el]; exact hV.res b i h s
    refine (congrArg₂ (fun p q : EReal => p + q) (log_sum_host Gen.reducesTo_S16x128x128x128_S16x128x128_d2 along_splits Gen.h_S_ _ _ _ (fun s => ?_) (fun s => ?_)) (hV.data b (k + 1) i h)).trans ?_
    · rw [el s]
      exact back_splits _ b _ s _
    · rw [er s]; exact part_lt hx b _ _ _
    · rw [trees_pos _ (Nat.succ_pos k)]
      refine congrArg (fun r : ℝ => Ideal.log (r : EReal) + span x b (k + 1) i) ?_
      rw [← parts_sum b (k + 1) i h]
      exact Finset.sum_congr rfl fun s _ => congrArg ex (er s)
  · rw [if_neg e] at hc
    exact (select_pass _ _ _ _ hc).trans (hV.chart b v i h (by omega))

/-- A trip keeps what the loop carries. -/
theorem At.step (hV : At x k V) (hx : ∀ y, x y < (⊤ : EReal)) (hk : k < 127) : At x (k + 1) (STEP V) where
  starts y := by rw [STEP_main_v19_0]; exact hV.starts y
  splits y := by rw [STEP_main_v19_1]; exact hV.splits y
  stops y := by rw [STEP_main_v19_2]; exact hV.stops y
  places y := by rw [STEP_main_v19_4]; exact hV.places y
  width y := by
    rw [STEP_main_v19_6]
    exact (congrArg (fun z : BitVec 32 => z + 1#32) (hV.width y)).trans (BitVec.ofNat_add (k + 1) 1).symm
  data s w i h := by rw [STEP_main_v19_3]; exact hV.data s w i h
  chart s w i h hw := by rw [STEP_main_v19_7]; exact hV.new hx hk s w i h hw

/-- So do `n` trips. -/
theorem At.steps (hV : At x 0 V) (hx : ∀ y, x y < (⊤ : EReal)) : ∀ n, n ≤ 127 → At x n (STEP^[n] V)
  | 0, _ => hV
  | n + 1, h => by
    rw [Function.iterate_succ_apply']
    exact (At.steps hV hx n (by omega)).step hx (by omega)

end Cert.ReferenceIdeal.Value

end
-- ==== Proof.RefValue.lean ====
/- The reference's result over the extended reals: each sentence's total, off its emissions and its number of tokens. -/
module

public import proofs.«01_k».proof.Proof.Trip

@[expose] public section

noncomputable section

namespace Cert.ReferenceIdeal.Value

open Idealize.ShloMosaic Idealize.ShloMosaic.TcCoe Idealize.ShloMosaic.StableHlo LogSum

/-! ## What the loop starts from -/

theorem along_labels : S16x128x128x128.Reduces [3] S16x128x128 := by decide

/-- What was found along the labels, put back beside every label. -/
theorem back_labels (q : FVec Ideal S16x128x128 .f32) (b : Fin 16) (i j l : Fin 128) :
    broadcastInDim S16x128x128x128 ![0, 1, 2, 3] Gen.bcast_S16x128x128x1_S16x128x128x128_0_1_2_3
      (broadcastInDim S16x128x128x1 ![0, 1, 2] Gen.bcast_S16x128x128_S16x128x128x1_0_1_2 q) (ix4 b i j l) = q (ix3 b i j) := by
  simp only [pointwise]
  rfl

/-- The scores of the spans, as the host finds them. -/
def scores (x : FVec Ideal S16x128x128x128 .f32) : FVec Ideal S16x128x128 .f32 :=
  addf
    (Host.log (Host.reduceAdd (Host.exp (subf x
      (broadcastInDim S16x128x128x128 ![0, 1, 2, 3] Gen.bcast_S16x128x128x1_S16x128x128x128_0_1_2_3
        (broadcastInDim S16x128x128x1 ![0, 1, 2] Gen.bcast_S16x128x128_S16x128x128x1_0_1_2
          (Host.reduce FloatOps.maximumf x (constant S_ .f32 0xFF800000#32) Gen.reducesTo_S16x128x128x128_S16x128x128_d3 Gen.h_S_)))))
      (constant S_ .f32 0x00000000#32) Gen.reducesTo_S16x128x128x128_S16x128x128_d3 Gen.h_S_))
    (Host.reduce FloatOps.maximumf x (constant S_ .f32 0xFF800000#32) Gen.reducesTo_S16x128x128x128_S16x128x128_d3 Gen.h_S_)

theorem scores_at {x : FVec Ideal S16x128x128x128 .f32} (hx : ∀ y, x y < (⊤ : EReal)) (s : Fin 16) (w i : ℕ) (h : w + i < 128) :
    scores x (ix3 s (⟨i, by omega⟩ : Fin 128) (⟨w + i, h⟩ : Fin 128)) = span x s w i := by
  have el : ∀ k : Fin 128, along_labels.lift (ix3 s (⟨i, by omega⟩ : Fin 128) (⟨w + i, h⟩ : Fin 128)) k = ix4 s (⟨i, by omega⟩ : Fin 128) (⟨w + i, h⟩ : Fin 128) k := fun k => funext fun a => by
    match a with
    | ⟨0, _⟩ => rfl
    | ⟨1, _⟩ => rfl
    | ⟨2, _⟩ => rfl
    | ⟨3, _⟩ => rfl
  refine (log_sum_host Gen.reducesTo_S16x128x128x128_S16x128x128_d3 along_labels Gen.h_S_ x _ _ (fun k => ?_) (fun k => hx _)).trans ?_
  · refine (congrArg _ (el k)).trans ?_
    exact back_labels _ s _ _ _
  · refine Eq.trans ?_ (dif_pos h).symm
    refine Eq.trans ?_ (log_sum fun k => hx _).symm
    refine congrArg (fun r : ℝ => Ideal.log (r : EReal)) (Finset.sum_congr rfl fun k _ => ?_)
    exact congrArg (fun y => ex (x y)) (el k)

variable (m : (ℓ : Loc nD τ sig) → Buf (Elt Ideal) ℓ) (c : Dev nD)

/-- The emissions the reference is given. -/
abbrev given : Vec Ideal ⟨4, ![16, 128, 128, 128]⟩ .f32 := m ((c.tc : Thread nD τ).loc main_arg0)

theorem starts_entry (y) : entryContents preI m c (Proc.devRef .tc main_v19_0) y = BitVec.ofNat 32 (y 0).val := by
  simp only [entryContents, afterL_cons, afterL_nil]
  after_reads_simp
  rfl

theorem splits_entry (y) : entryContents preI m c (Proc.devRef .tc main_v19_1) y = BitVec.ofNat 32 (y 1).val := by
  simp only [entryContents, afterL_cons, afterL_nil]
  after_reads_simp
  rfl

theorem stops_entry (y) : entryContents preI m c (Proc.devRef .tc main_v19_2) y = BitVec.ofNat 32 (y 2).val := by
  simp only [entryContents, afterL_cons, afterL_nil]
  after_reads_simp
  rfl

theorem places_entry (y) : entryContents preI m c (Proc.devRef .tc main_v19_4) y = BitVec.ofNat 32 (y 0).val := by
  simp only [entryContents, afterL_cons, afterL_nil]
  after_reads_simp
  rfl

theorem width_entry (y) : entryContents preI m c (Proc.devRef .tc main_v19_6) y = 1#32 := by
  simp only [entryContents, afterL_cons, afterL_nil]
  after_reads_simp
  rfl

theorem data_entry : entryContents preI m c (Proc.devRef .tc main_v19_3) = scores (given m c) := by
  simp only [entryContents, afterL_cons, afterL_nil]
  after_reads_simp
  rfl

/-- The chart the loop starts from: the scores on the diagonal, and a large negative number beside it. -/
def blank (x : FVec Ideal S16x128x128x128 .f32) : FVec Ideal S16x128x128 .f32 :=
  select
    (broadcastInDim S16x128x128 ![1, 2] Gen.bcast_S128x128_S16x128x128_1_2
      (cmpi .eq
        (broadcastInDim S128x128 ![0, 1] Gen.bcast_S128x1_S128x128_0_1 (broadcastInDim S128x1 ![0] Gen.bcast_S128_S128x1_0 (iotaInDim S128 32 0)))
        (broadcastInDim S128x128 ![0, 1] Gen.bcast_S1x128_S128x128_0_1 (broadcastInDim S1x128 ![1] Gen.bcast_S128_S1x128_1 (iotaInDim S128 32 0)))))
    (scores x)
    (broadcastInDim S16x128x128 ![] Gen.bcast_S_S16x128x128 (constant S_ .f32 0xCE6E6B28#32))

theorem chart_entry : entryContents preI m c (Proc.devRef .tc main_v19_7) = blank (given m c) := by
  simp only [entryContents, afterL_cons, afterL_nil]
  after_reads_simp
  rfl

theorem blank_at {x : FVec Ideal S16x128x128x128 .f32} (hx : ∀ y, x y < (⊤ : EReal)) (s : Fin 16) (w i : ℕ) (h : w + i < 128) (hw : w ≤ 0) :
    blank x (ix3 s (⟨i, by omega⟩ : Fin 128) (⟨w + i, h⟩ : Fin 128)) = trees (span x s) w i := by
  obtain rfl : w = 0 := by omega
  refine (select_hit _ _ _ _ ?_).trans ((scores_at hx s 0 i h).trans (by rw [trees]))
  simp only [pointwise]
  show IntOp.cmpi .eq (BitVec.ofNat 32 i) (BitVec.ofNat 32 (0 + i)) = 1#1
  rw [Nat.zero_add]
  simp [IntOp.cmpi]

/-- What the loop starts from is what it carries before its first trip. -/
theorem entry (hx : ∀ y, given m c y < (⊤ : EReal)) : At (given m c) 0 (entryContents preI m c) where
  starts := starts_entry m c
  splits := splits_entry m c
  stops := stops_entry m c
  places := places_entry m c
  width := width_entry m c
  data s w i h := (congrFun (data_entry m c) _).trans (scores_at hx s w i h)
  chart s w i h hw := (congrFun (chart_entry m c) _).trans (blank_at hx s w i h hw)

/-! ## The entry each sentence's total is read from -/

/-- A number of tokens in range, less one, as a position of the chart. -/
theorem last_token {n : BitVec 32} (h1 : 1 ≤ n.toNat) (h2 : n.toNat ≤ 128) : n - 1#32 = BitVec.ofNat 32 (n.toNat - 1) := by
  apply BitVec.eq_of_toNat_eq
  have : n.toNat < 2 ^ 32 := n.isLt
  simp only [BitVec.toNat_sub, BitVec.toNat_ofNat]
  omega

/-- The chart's read at a table of positions: each row of the table in range names its entry. -/
theorem gather_at (x : S16x128x128.Idx → EReal) (idx : IVec S16x3 32) (s : Fin 16) (b : Fin 16) (i j : Fin 128)
    (h0 : idx (ix2 s (0 : Fin 3)) = BitVec.ofNat 32 b.val) (h1 : idx (ix2 s (1 : Fin 3)) = BitVec.ofNat 32 i.val)
    (h2 : idx (ix2 s (2 : Fin 3)) = BitVec.ofNat 32 j.val) :
    Host.gather gather_S16x128x128_S16x3_S16_n_012_n_n_012_1_111 x idx (ix1 s) = x (ix3 b i j) := by
  show x _ = x _
  congr 1
  have e : ∀ k : Fin 3, gather_S16x128x128_S16x3_S16_n_012_n_n_012_1_111.siIdx (ix1 s) k = ix2 s k := fun k => funext fun a => by
    match a with
    | ⟨0, _⟩ => exact Fin.ext rfl
    | ⟨1, _⟩ => exact Fin.ext rfl
  funext a
  match a with
  | ⟨0, _⟩ =>
    apply Fin.ext
    show min (idx (gather_S16x128x128_S16x3_S16_n_012_n_n_012_1_111.siIdx (ix1 s) (0 : Fin 3))).toInt.toNat (16 - 1) = b.val
    rw [e, h0, int_small (by omega)]; omega
  | ⟨1, _⟩ =>
    apply Fin.ext
    show min (idx (gather_S16x128x128_S16x3_S16_n_012_n_n_012_1_111.siIdx (ix1 s) (1 : Fin 3))).toInt.toNat (128 - 1) = i.val
    rw [e, h1, int_small (by omega)]; omega
  | ⟨2, _⟩ =>
    apply Fin.ext
    show min (idx (gather_S16x128x128_S16x3_S16_n_012_n_n_012_1_111.siIdx (ix1 s) (2 : Fin 3))).toInt.toNat (128 - 1) = j.val
    rw [e, h2, int_small (by omega)]; omega

/-- A position that is not negative is kept as it is. -/
theorem not_wrapped {n : ℕ} (h : n < 128) (z : BitVec 32) : Scalar.select (IntOp.cmpi .slt (BitVec.ofNat 32 n) 0#32) z (BitVec.ofNat 32 n) = BitVec.ofNat 32 n := by
  rw [show IntOp.cmpi .slt (BitVec.ofNat 32 n) 0#32 = 0#1 from (lt_small h (by omega : 0 < 128)).trans (if_neg (Nat.not_lt_zero n))]
  rfl

/-- The last column of the table of positions. -/
theorem third_column (p q r : IVec S16x1 32) (s : Fin 16) :
    concatenate S16x3 1 [⟨S16x1, p⟩, ⟨S16x1, q⟩, ⟨S16x1, r⟩] Gen.concatenates_S16x1_S16x1_S16x1_S16x3_d1 (ix2 s (2 : Fin 3)) = r (ix2 s (0 : Fin 1)) := by
  show r _ = r _
  congr 1
  funext a
  match a with
  | ⟨0, _⟩ => exact Fin.ext rfl
  | ⟨1, _⟩ => exact Fin.ext rfl

/-- The result read off the chart. -/
theorem out_at (V : Valuation τ sig (Elt Ideal)) (n : IVec S16 32) (hn : V (Proc.devRef .tc main_arg1) = n)
    (hl : ∀ y, 1 ≤ (n y).toNat ∧ (n y).toNat ≤ 128) (s : Fin 16) :
    out_main_v39 V (ix1 s) = V (Proc.devRef .tc main_v19_7)
      (ix3 s (⟨0, by omega⟩ : Fin 128) (⟨(n (ix1 s)).toNat - 1, by have := (hl (ix1 s)).2; omega⟩ : Fin 128)) := by
  have hs : s.val < 128 := by omega
  have hb : (n (ix1 s)).toNat - 1 < 128 := by have := (hl (ix1 s)).2; omega
  refine gather_at _ _ s s ⟨0, by omega⟩ ⟨_, hb⟩ ?_ ?_ ?_
  · simp only [pointwise]
    exact not_wrapped hs _
  · rfl
  · refine (third_column _ _ _ s).trans ?_
    simp only [pointwise]
    rw [hn]
    show Scalar.select (IntOp.cmpi .slt (n (ix1 s) - 1#32) 0#32) (n (ix1 s) - 1#32 + 128#32) (n (ix1 s) - 1#32) = _
    rw [last_token (hl _).1 (hl _).2]
    exact not_wrapped hb _

/-- The number of tokens of each sentence the reference is given. -/
abbrev lengths : IVec ⟨1, ![16]⟩ 32 := m ((c.tc : Thread nD τ).loc main_arg1)

/-- The reference ends with each sentence's total in its result, its arguments as they were. -/
theorem run_totals (ρ : Dev nD → PrngReg) (hx : ∀ c y, given m c y < (⊤ : EReal))
    (hl : ∀ c y, 1 ≤ (lengths m c y).toNat ∧ (lengths m c y).toNat ≤ 128) :
    θ_run (defs (F := Ideal)) (onTc (τ := τ) (main (F := Ideal))) ⟨m, fun _ => 0, ρ⟩ fun r => ∀ c : Dev nD,
      r.2.mem ((c.tc : Thread nD τ).loc main_v39) = (fun y => trees (span (given m c) (y 0)) ((lengths m c y).toNat - 1) 0)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun y => ?_), (h c).2⟩) (run m ρ)
  obtain ⟨s, rfl⟩ : ∃ s : Fin 16, y = ix1 s := ⟨y 0, funext fun a => by match a with | ⟨0, _⟩ => rfl⟩
  have hb : (lengths m c (ix1 s)).toNat - 1 + 0 < 128 := by have := (hl c (ix1 s)).2; omega
  refine (out_at _ (lengths m c) (iter_main_arg1 m c 127) (hl c) s).trans ?_
  exact ((entry m c (hx c)).steps (hx c) 127 (by omega)).chart s _ 0 hb (by omega)

end Cert.ReferenceIdeal.Value

end
-- ==== Proof.lean ====
module

public import proofs.«01_k».proof.Defs
public import proofs.«01_k».proof.Proof.FrameI
public import proofs.«01_k».proof.Proof.FrameB
public import proofs.«01_k».proof.Proof.ValueI
public import proofs.«01_k».proof.Proof.RefValue
public import Idealize.ShloMosaic.Lib.Claim
public import Idealize.ShloMosaic.Lib.Quiescent

@[expose] public section

noncomputable section

namespace Cert.Proof

open Idealize.ShloMosaic Idealize.ShloMosaic.TcCoe Idealize.SL.Sem LogSum

/-- The reference ends with both arguments as they were, and has no counter at all. -/
theorem quietR (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems rfl r.2⟩) (Cert.ReferenceIdeal.Value.run m g)

/-- The shapes the precondition's operations take fit. -/
theorem factsPre : Cert.Pre_lengths_in_range.Facts where
  bcast_S16_S16x1x1x1_0 := by decide
  bcast_S_S16x128x128x128 := by decide
  bcast_S_S16x1x1x1 := by decide
  bcast_S16x1x1x1_S16x128x128x128_0_1_2_3 := by decide

theorem both {a b : BitVec 1} (h : a &&& b = 1#1) : a = 1#1 ∧ b = 1#1 := by
  revert a b; decide

/-- A word between one and one hundred and twenty-eight, read signed, is so read as a natural number. -/
theorem in_range {n : BitVec 32} (h1 : IntOp.cmpi .sge n 1#32 = 1#1) (h2 : IntOp.cmpi .sle n 128#32 = 1#1) :
    1 ≤ n.toNat ∧ n.toNat ≤ 128 := by
  have e1 : (1 : ℤ) ≤ n.toInt := by
    by_contra hc
    have : IntOp.cmpi .sge n 1#32 = 0#1 := by
      simp only [IntOp.cmpi, BitVec.sle_eq_decide]
      rw [show (1#32 : BitVec 32).toInt = 1 from rfl, decide_eq_false hc]
      rfl
    rw [this] at h1
    exact absurd h1 (by decide)
  have e2 : n.toInt ≤ 128 := by
    by_contra hc
    have : IntOp.cmpi .sle n 128#32 = 0#1 := by
      simp only [IntOp.cmpi, BitVec.sle_eq_decide]
      rw [show (128#32 : BitVec 32).toInt = 128 from rfl, decide_eq_false hc]
      rfl
    rw [this] at h2
    exact absurd h2 (by decide)
  rw [BitVec.toInt_eq_toNat_cond] at e1 e2
  have := n.isLt
  split at e1 <;> omega

theorem plus_infinity : (FloatOps.ofBits .f32 0x7F800000#32 : Ideal .f32) = (⊤ : EReal) := by
  show Ideal.ofBits .f32 0x7F800000#32 = _
  simp [Ideal.ofBits, Ideal.ieee]

theorem below {z : Ideal .f32} (h : FloatOps.cmpf .olt z (FloatOps.ofBits .f32 0x7F800000#32 : Ideal .f32) = 1#1) : z < (⊤ : EReal) := by
  rw [plus_infinity] at h
  by_contra hc
  have : FloatOps.cmpf (F := Ideal) (φ := .f32) .olt z (⊤ : EReal) = 0#1 := by
    show Idealize.ShloMosaic.Ideal.cmp .olt z (⊤ : EReal) = 0#1
    simp [Idealize.ShloMosaic.Ideal.cmp, hc]
  rw [this] at h
  exact absurd h (by decide)

/-- What the precondition says of the emissions and the numbers of tokens. -/
theorem pre_says (e : FVec Ideal Cert.Pre_lengths_in_range.S16x128x128x128 .f32) (n : IVec Cert.Pre_lengths_in_range.S16 32)
    (h : @Cert.Pre_lengths_in_range.fn factsPre Ideal _ e n = fun _ => 1#1) :
    (∀ y, e y < (⊤ : EReal)) ∧ ∀ y, 1 ≤ (n y).toNat ∧ (n y).toNat ≤ 128 := by
  have at_ : ∀ (b : Fin 16) (i j l : Fin 128), e (ix4 b i j l) < (⊤ : EReal) ∧ 1 ≤ (n (ix1 b)).toNat ∧ (n (ix1 b)).toNat ≤ 128 := fun b i j l => by
    have h0 := congrFun h (ix4 b i j l)
    simp only [Cert.Pre_lengths_in_range.fn, pointwise] at h0
    obtain ⟨h1, h4⟩ := both h0
    obtain ⟨h2, h3⟩ := both h1
    exact ⟨below h2, in_range h3 h4⟩
  refine ⟨fun y => ?_, fun y => ?_⟩
  · have e4 : y = ix4 (y 0) (y 1) (y 2) (y 3) := funext fun a => by
      match a with
      | ⟨0, _⟩ => rfl
      | ⟨1, _⟩ => rfl
      | ⟨2, _⟩ => rfl
      | ⟨3, _⟩ => rfl
    rw [e4]
    exact (at_ (y 0) (y 1) (y 2) (y 3)).1
  · have e1 : y = ix1 (y 0) := funext fun a => by match a with | ⟨0, _⟩ => rfl
    rw [e1]
    exact (at_ (y 0) 0 0 0).2

/-- Over the extended reals both programs end with each sentence's total. -/
theorem equal : algebraic_KernelIdeal_ReferenceIdeal_pre_lengths_in_range (hKernelIdeal := Cert.KernelIdeal.Gen.facts)
    (hReferenceIdeal := Cert.ReferenceIdeal.Gen.facts) (hPre_lengths_in_range := factsPre) := fun m g m' g' hp ha => by
  have hx : ∀ c y, Cert.KernelIdeal.Gen.emissions m c y < (⊤ : EReal) := fun c => (pre_says _ _ (hp c)).1
  have hl : ∀ c y, 1 ≤ (Cert.KernelIdeal.Gen.sizes m c y).toNat ∧ (Cert.KernelIdeal.Gen.sizes m c y).toNat ≤ 128 := fun c => (pre_says _ _ (hp c)).2
  have ex : ∀ c, Cert.ReferenceIdeal.Value.given m' c = Cert.KernelIdeal.Gen.emissions m c := fun c => (ha c).1
  have en : ∀ c, Cert.ReferenceIdeal.Value.lengths m' c = Cert.KernelIdeal.Gen.sizes m c := fun c => (ha c).2
  refine ⟨Cert.KernelIdeal.Gen.totals m, Cert.KernelIdeal.Gen.run_totals m g hx hl, ?_⟩
  refine (θ_run _ _ _).mono (fun r h c => ⟨(h c).1.trans ?_, (h c).2⟩)
    (Cert.ReferenceIdeal.Value.run_totals m' g' (fun c => by rw [ex]; exact hx c) (fun c => by rw [en]; exact hl c))
  rw [ex, en]
  rfl

/-- Every claim of the certificate holds. -/
theorem claim : Cert.Claim :=
  ⟨Cert.Kernel.Gen.facts, Cert.KernelIdeal.Gen.facts, Cert.ReferenceIdeal.Gen.facts, factsPre,
    fun m ρ _ => Cert.Kernel.Gen.quiet m ρ, fun m ρ _ => Cert.KernelIdeal.Gen.quiet m ρ, fun m ρ _ => Cert.KernelIdeal.Gen.quiet m ρ,
    fun m ρ _ => quietR m ρ, fun m ρ _ => quietR m ρ, trivial, equal⟩

end Cert.Proof

end
